-- ==== Defs.lean ====
def Pre_GdnSample (m : (ℓ : Loc Cert.GdnSample.nD Cert.GdnSample.τ Cert.GdnSample.sig) → Buf (Elt Bits) ℓ) : Prop :=
  True

def Pre_GdnSampleIdeal (m : (ℓ : Loc Cert.GdnSampleIdeal.nD Cert.GdnSampleIdeal.τ Cert.GdnSampleIdeal.sig) → Buf (Elt Ideal) ℓ) : Prop :=
  True

def Pre_GdnSampleRefIdeal (m : (ℓ : Loc Cert.GdnSampleRefIdeal.nD Cert.GdnSampleRefIdeal.τ Cert.GdnSampleRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleRefIdeal (m : (ℓ : Loc Cert.PleSampleRefIdeal.nD Cert.PleSampleRefIdeal.τ Cert.PleSampleRefIdeal.sig) → Buf (Elt Ideal) ℓ) : Prop :=
  True

def quiescent_GdnSample [hGdnSample : Cert.GdnSample.Facts] : Prop :=
  ∀ (m : (ℓ : Loc Cert.GdnSample.nD Cert.GdnSample.τ Cert.GdnSample.sig) → Buf (Elt Bits) ℓ) (g : Dev Cert.GdnSample.nD → PrngReg), Pre_GdnSample m →
    θ_run (Cert.GdnSample.defs (F := Bits)) (onTc (τ := Cert.GdnSample.τ) (Cert.GdnSample.main (F := Bits))) ⟨m, fun _ => 0, g⟩ (fun r => (∀ c : Dev Cert.GdnSample.nD,
      r.2.mem ((c.tc : Thread Cert.GdnSample.nD Cert.GdnSample.τ).loc Cert.GdnSample.main_arg0) = m ((c.tc : Thread Cert.GdnSample.nD Cert.GdnSample.τ).loc Cert.GdnSample.main_arg0)
      ∧ r.2.mem ((c.tc : Thread Cert.GdnSample.nD Cert.GdnSample.τ).loc Cert.GdnSample.main_arg1) = m ((c.tc : Thread Cert.GdnSample.nD Cert.GdnSample.τ).loc Cert.GdnSample.main_arg1)
      ∧ r.2.mem ((c.tc : Thread Cert.GdnSample.nD Cert.GdnSample.τ).loc Cert.GdnSample.main_arg2) = m ((c.tc : Thread Cert.GdnSample.nD Cert.GdnSample.τ).loc Cert.GdnSample.main_arg2)
      ∧ r.2.mem ((c.tc : Thread Cert.GdnSample.nD Cert.GdnSample.τ).loc Cert.GdnSample.main_arg3) = m ((c.tc : Thread Cert.GdnSample.nD Cert.GdnSample.τ).loc Cert.GdnSample.main_arg3)
      ∧ r.2.mem ((c.tc : Thread Cert.GdnSample.nD Cert.GdnSample.τ).loc Cert.GdnSample.main_arg4) = m ((c.tc : Thread Cert.GdnSample.nD Cert.GdnSample.τ).loc Cert.GdnSample.main_arg4))
      ∧ r.2.sem = fun _ => 0)

def quiescent_GdnSampleIdeal [hGdnSampleIdeal : Cert.GdnSampleIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg), Pre_GdnSampleIdeal m →
    θ_run (Cert.GdnSampleIdeal.defs (F := Ideal)) (onTc (τ := Cert.GdnSampleIdeal.τ) (Cert.GdnSampleIdeal.main (F := Ideal))) ⟨m, fun _ => 0, g⟩ (fun r => (∀ c : Dev Cert.GdnSampleIdeal.nD,
      r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
      ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
      ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2)
      ∧ r.2.mem ((c.tc : Thread Cert.GdnSampleIdeal.nD Cert.GdnSampleIdeal.τ).loc Cert.GdnSampleIdeal.main_arg3) = m ((c.tc : Thread Cert.GdnSampleIdeal.nD Cert.GdnSampleIdeal.τ).loc Cert.GdnSampleIdeal.main_arg3)
      ∧ r.2.mem ((c.tc : Thread Cert.GdnSampleIdeal.nD Cert.GdnSampleIdeal.τ).loc Cert.GdnSampleIdeal.main_arg4) = m ((c.tc : Thread Cert.GdnSampleIdeal.nD Cert.GdnSampleIdeal.τ).loc Cert.GdnSampleIdeal.main_arg4))
      ∧ r.2.sem = fun _ => 0)

def quiescent_GdnSampleRefIdeal [hGdnSampleRefIdeal : Cert.GdnSampleRefIdeal.Facts] : Prop :=
  ∀ (m : (ℓ : Loc Cert.GdnSampleRefIdeal.nD Cert.GdnSampleRefIdeal.τ Cert.GdnSampleRefIdeal.sig) → Buf (Elt Ideal) ℓ) (g : Dev Cert.GdnSampleRefIdeal.nD → PrngReg), Pre_GdnSampleRefIdeal m →
    θ_run (Cert.GdnSampleRefIdeal.defs (F := Ideal)) (onTc (τ := Cert.GdnSampleRefIdeal.τ) (Cert.GdnSampleRefIdeal.main (F := Ideal))) ⟨m, fun _ => 0, g⟩ (fun r => (∀ c : Dev Cert.GdnSampleRefIdeal.nD,
      r.2.mem ((c.tc : Thread Cert.GdnSampleRefIdeal.nD Cert.GdnSampleRefIdeal.τ).loc Cert.GdnSampleRefIdeal.main_arg0) = m ((c.tc : Thread Cert.GdnSampleRefIdeal.nD Cert.GdnSampleRefIdeal.τ).loc Cert.GdnSampleRefIdeal.main_arg0)
      ∧ r.2.mem ((c.tc : Thread Cert.GdnSampleRefIdeal.nD Cert.GdnSampleRefIdeal.τ).loc Cert.GdnSampleRefIdeal.main_arg1) = m ((c.tc : Thread Cert.GdnSampleRefIdeal.nD Cert.GdnSampleRefIdeal.τ).loc Cert.GdnSampleRefIdeal.main_arg1)
      ∧ r.2.mem ((c.tc : Thread Cert.GdnSampleRefIdeal.nD Cert.GdnSampleRefIdeal.τ).loc Cert.GdnSampleRefIdeal.main_arg2) = m ((c.tc : Thread Cert.GdnSampleRefIdeal.nD Cert.GdnSampleRefIdeal.τ).loc Cert.GdnSampleRefIdeal.main_arg2)
      ∧ r.2.mem ((c.tc : Thread Cert.GdnSampleRefIdeal.nD Cert.GdnSampleRefIdeal.τ).loc Cert.GdnSampleRefIdeal.main_arg3) = m ((c.tc : Thread Cert.GdnSampleRefIdeal.nD Cert.GdnSampleRefIdeal.τ).loc Cert.GdnSampleRefIdeal.main_arg3)
      ∧ r.2.mem ((c.tc : Thread Cert.GdnSampleRefIdeal.nD Cert.GdnSampleRefIdeal.τ).loc Cert.GdnSampleRefIdeal.main_arg4) = m ((c.tc : Thread Cert.GdnSampleRefIdeal.nD Cert.GdnSampleRefIdeal.τ).loc Cert.GdnSampleRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6)
      ∧ r.2.mem ((c.tc : Thread Cert.ProjSample.nD Cert.ProjSample.τ).loc Cert.ProjSample.main_arg7) = m ((c.tc : Thread Cert.ProjSample.nD Cert.ProjSample.τ).loc Cert.ProjSample.main_arg7))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
      ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5)
      ∧ r.2.mem ((c.tc : Thread Cert.ProjSampleRefIdeal.nD Cert.ProjSampleRefIdeal.τ).loc Cert.ProjSampleRefIdeal.main_arg6) = m ((c.tc : Thread Cert.ProjSampleRefIdeal.nD Cert.ProjSampleRefIdeal.τ).loc Cert.ProjSampleRefIdeal.main_arg6)
      ∧ r.2.mem ((c.tc : Thread Cert.ProjSampleRefIdeal.nD Cert.ProjSampleRefIdeal.τ).loc Cert.ProjSampleRefIdeal.main_arg7) = m ((c.tc : Thread Cert.ProjSampleRefIdeal.nD Cert.ProjSampleRefIdeal.τ).loc Cert.ProjSampleRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ r.2.sem = fun _ => 0)

def quiescent_PleSampleRefIdeal [hPleSampleRefIdeal : Cert.PleSampleRefIdeal.Facts] : Prop :=
  ∀ (m : (ℓ : Loc Cert.PleSampleRefIdeal.nD Cert.PleSampleRefIdeal.τ Cert.PleSampleRefIdeal.sig) → Buf (Elt Ideal) ℓ) (g : Dev Cert.PleSampleRefIdeal.nD → PrngReg), Pre_PleSampleRefIdeal m →
    θ_run (Cert.PleSampleRefIdeal.defs (F := Ideal)) (onTc (τ := Cert.PleSampleRefIdeal.τ) (Cert.PleSampleRefIdeal.main (F := Ideal))) ⟨m, fun _ => 0, g⟩ (fun r => (∀ c : Dev Cert.PleSampleRefIdeal.nD,
      r.2.mem ((c.tc : Thread Cert.PleSampleRefIdeal.nD Cert.PleSampleRefIdeal.τ).loc Cert.PleSampleRefIdeal.main_arg0) = m ((c.tc : Thread Cert.PleSampleRefIdeal.nD Cert.PleSampleRefIdeal.τ).loc Cert.PleSampleRefIdeal.main_arg0)
      ∧ r.2.mem ((c.tc : Thread Cert.PleSampleRefIdeal.nD Cert.PleSampleRefIdeal.τ).loc Cert.PleSampleRefIdeal.main_arg1) = m ((c.tc : Thread Cert.PleSampleRefIdeal.nD Cert.PleSampleRefIdeal.τ).loc Cert.PleSampleRefIdeal.main_arg1)
      ∧ r.2.mem ((c.tc : Thread Cert.PleSampleRefIdeal.nD Cert.PleSampleRefIdeal.τ).loc Cert.PleSampleRefIdeal.main_arg2) = m ((c.tc : Thread Cert.PleSampleRefIdeal.nD Cert.PleSampleRefIdeal.τ).loc Cert.PleSampleRefIdeal.main_arg2)
      ∧ r.2.mem ((c.tc : Thread Cert.PleSampleRefIdeal.nD Cert.PleSampleRefIdeal.τ).loc Cert.PleSampleRefIdeal.main_arg3) = m ((c.tc : Thread Cert.PleSampleRefIdeal.nD Cert.PleSampleRefIdeal.τ).loc Cert.PleSampleRefIdeal.main_arg3)
      ∧ r.2.mem ((c.tc : Thread Cert.PleSampleRefIdeal.nD Cert.PleSampleRefIdeal.τ).loc Cert.PleSampleRefIdeal.main_arg4) = m ((c.tc : Thread Cert.PleSampleRefIdeal.nD Cert.PleSampleRefIdeal.τ).loc Cert.PleSampleRefIdeal.main_arg4))
      ∧ r.2.sem = fun _ => 0)

def preserves_GdnSample_GdnSampleIdeal : Prop :=
  True

def algebraic_GdnSampleIdeal_GdnSampleRefIdeal [hGdnSampleIdeal : Cert.GdnSampleIdeal.Facts] [hGdnSampleRefIdeal : Cert.GdnSampleRefIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg)
    (m' : (ℓ : Loc Cert.GdnSampleRefIdeal.nD Cert.GdnSampleRefIdeal.τ Cert.GdnSampleRefIdeal.sig) → Buf (Elt Ideal) ℓ) (g' : Dev Cert.GdnSampleRefIdeal.nD → PrngReg), Pre_GdnSampleIdeal m →
    (∀ c : Dev Cert.GdnSampleIdeal.nD,
      m' ((c.tc : Thread Cert.GdnSampleRefIdeal.nD Cert.GdnSampleRefIdeal.τ).loc Cert.GdnSampleRefIdeal.main_arg0) = m ((c.tc : Thread Cert.GdnSampleIdeal.nD Cert.GdnSampleIdeal.τ).loc Cert.GdnSampleIdeal.main_arg0)
      ∧ m' ((c.tc : Thread Cert.GdnSampleRefIdeal.nD Cert.GdnSampleRefIdeal.τ).loc Cert.GdnSampleRefIdeal.main_arg1) = m ((c.tc : Thread Cert.GdnSampleIdeal.nD Cert.GdnSampleIdeal.τ).loc Cert.GdnSampleIdeal.main_arg1)
      ∧ m' ((c.tc : Thread Cert.GdnSampleRefIdeal.nD Cert.GdnSampleRefIdeal.τ).loc Cert.GdnSampleRefIdeal.main_arg2) = m ((c.tc : Thread Cert.GdnSampleIdeal.nD Cert.GdnSampleIdeal.τ).loc Cert.GdnSampleIdeal.main_arg2)
      ∧ m' ((c.tc : Thread Cert.GdnSampleRefIdeal.nD Cert.GdnSampleRefIdeal.τ).loc Cert.GdnSampleRefIdeal.main_arg3) = m ((c.tc : Thread Cert.GdnSampleIdeal.nD Cert.GdnSampleIdeal.τ).loc Cert.GdnSampleIdeal.main_arg3)
      ∧ m' ((c.tc : Thread Cert.GdnSampleRefIdeal.nD Cert.GdnSampleRefIdeal.τ).loc Cert.GdnSampleRefIdeal.main_arg4) = m ((c.tc : Thread Cert.GdnSampleIdeal.nD Cert.GdnSampleIdeal.τ).loc Cert.GdnSampleIdeal.main_arg4)) →
    ∃ (v0 : (c : Dev Cert.GdnSampleIdeal.nD) → Buf (Elt Ideal) ((c.tc : Thread Cert.GdnSampleIdeal.nD Cert.GdnSampleIdeal.τ).loc Cert.GdnSampleIdeal.main_v9_0)) (v1 : (c : Dev Cert.GdnSampleIdeal.nD) → Buf (Elt Ideal) ((c.tc : Thread Cert.GdnSampleIdeal.nD Cert.GdnSampleIdeal.τ).loc Cert.GdnSampleIdeal.main_v9_1)) (v2 : (c : Dev Cert.GdnSampleIdeal.nD) → Buf (Elt Ideal) ((c.tc : Thread Cert.GdnSampleIdeal.nD Cert.GdnSampleIdeal.τ).loc Cert.GdnSampleIdeal.main_v9_2)),
      θ_run (Cert.GdnSampleIdeal.defs (F := Ideal)) (onTc (τ := Cert.GdnSampleIdeal.τ) (Cert.GdnSampleIdeal.main (F := Ideal))) ⟨m, fun _ => 0, g⟩ (fun r => ∀ c : Dev Cert.GdnSampleIdeal.nD,
          r.2.mem ((c.tc : Thread Cert.GdnSampleIdeal.nD Cert.GdnSampleIdeal.τ).loc Cert.GdnSampleIdeal.main_v9_0) = v0 c
          ∧ r.2.mem ((c.tc : Thread Cert.GdnSampleIdeal.nD Cert.GdnSampleIdeal.τ).loc Cert.GdnSampleIdeal.main_v9_1) = v1 c
          ∧ r.2.mem ((c.tc : Thread Cert.GdnSampleIdeal.nD Cert.GdnSampleIdeal.τ).loc Cert.GdnSampleIdeal.main_v9_2) = v2 c
          ∧ r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
          ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
          ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2)
          ∧ r.2.mem ((c.tc : Thread Cert.GdnSampleIdeal.nD Cert.GdnSampleIdeal.τ).loc Cert.GdnSampleIdeal.main_arg3) = m ((c.tc : Thread Cert.GdnSampleIdeal.nD Cert.GdnSampleIdeal.τ).loc Cert.GdnSampleIdeal.main_arg3)
          ∧ r.2.mem ((c.tc : Thread Cert.GdnSampleIdeal.nD Cert.GdnSampleIdeal.τ).loc Cert.GdnSampleIdeal.main_arg4) = m ((c.tc : Thread Cert.GdnSampleIdeal.nD Cert.GdnSampleIdeal.τ).loc Cert.GdnSampleIdeal.main_arg4))
      ∧ θ_run (Cert.GdnSampleRefIdeal.defs (F := Ideal)) (onTc (τ := Cert.GdnSampleRefIdeal.τ) (Cert.GdnSampleRefIdeal.main (F := Ideal))) ⟨m', fun _ => 0, g'⟩ (fun r => ∀ c : Dev Cert.GdnSampleRefIdeal.nD,
          r.2.mem ((c.tc : Thread Cert.GdnSampleRefIdeal.nD Cert.GdnSampleRefIdeal.τ).loc Cert.GdnSampleRefIdeal.main_v98) = v0 c
          ∧ r.2.mem ((c.tc : Thread Cert.GdnSampleRefIdeal.nD Cert.GdnSampleRefIdeal.τ).loc Cert.GdnSampleRefIdeal.main_v79) = v1 c
          ∧ r.2.mem ((c.tc : Thread Cert.GdnSampleRefIdeal.nD Cert.GdnSampleRefIdeal.τ).loc Cert.GdnSampleRefIdeal.main_v99) = v2 c
          ∧ r.2.mem ((c.tc : Thread Cert.GdnSampleRefIdeal.nD Cert.GdnSampleRefIdeal.τ).loc Cert.GdnSampleRefIdeal.main_arg0) = m' ((c.tc : Thread Cert.GdnSampleRefIdeal.nD Cert.GdnSampleRefIdeal.τ).loc Cert.GdnSampleRefIdeal.main_arg0)
          ∧ r.2.mem ((c.tc : Thread Cert.GdnSampleRefIdeal.nD Cert.GdnSampleRefIdeal.τ).loc Cert.GdnSampleRefIdeal.main_arg1) = m' ((c.tc : Thread Cert.GdnSampleRefIdeal.nD Cert.GdnSampleRefIdeal.τ).loc Cert.GdnSampleRefIdeal.main_arg1)
          ∧ r.2.mem ((c.tc : Thread Cert.GdnSampleRefIdeal.nD Cert.GdnSampleRefIdeal.τ).loc Cert.GdnSampleRefIdeal.main_arg2) = m' ((c.tc : Thread Cert.GdnSampleRefIdeal.nD Cert.GdnSampleRefIdeal.τ).loc Cert.GdnSampleRefIdeal.main_arg2)
          ∧ r.2.mem ((c.tc : Thread Cert.GdnSampleRefIdeal.nD Cert.GdnSampleRefIdeal.τ).loc Cert.GdnSampleRefIdeal.main_arg3) = m' ((c.tc : Thread Cert.GdnSampleRefIdeal.nD Cert.GdnSampleRefIdeal.τ).loc Cert.GdnSampleRefIdeal.main_arg3)
          ∧ r.2.mem ((c.tc : Thread Cert.GdnSampleRefIdeal.nD Cert.GdnSampleRefIdeal.τ).loc Cert.GdnSampleRefIdeal.main_arg4) = m' ((c.tc : Thread Cert.GdnSampleRefIdeal.nD Cert.GdnSampleRefIdeal.τ).loc Cert.GdnSampleRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v38)) (v1 : (c : Dev Cert.ProjIdeal.nD) → Buf (Elt Ideal) ((c.tc : Thread Cert.ProjIdeal.nD Cert.ProjIdeal.τ).loc Cert.ProjIdeal.main_v40)) (v2 : (c : Dev Cert.ProjIdeal.nD) → Buf (Elt Ideal) ((c.tc : Thread Cert.ProjIdeal.nD Cert.ProjIdeal.τ).loc Cert.ProjIdeal.main_v42)) (v3 : (c : Dev Cert.ProjIdeal.nD) → Buf (Elt Ideal) ((c.tc : Thread Cert.ProjIdeal.nD Cert.ProjIdeal.τ).loc Cert.ProjIdeal.main_v45)) (v4 : (c : Dev Cert.ProjIdeal.nD) → Buf (Elt Ideal) ((c.tc : Thread Cert.ProjIdeal.nD Cert.ProjIdeal.τ).loc Cert.ProjIdeal.main_v47)) (v5 : (c : Dev Cert.ProjIdeal.nD) → Buf (Elt Ideal) ((c.tc : Thread Cert.ProjIdeal.nD Cert.ProjIdeal.τ).loc Cert.ProjIdeal.main_v49)) (v6 : (c : Dev Cert.ProjIdeal.nD) → Buf (Elt Ideal) ((c.tc : Thread Cert.ProjIdeal.nD Cert.ProjIdeal.τ).loc Cert.ProjIdeal.main_v51)) (v7 : (c : Dev Cert.ProjIdeal.nD) → Buf (Elt Ideal) ((c.tc : Thread Cert.ProjIdeal.nD Cert.ProjIdeal.τ).loc Cert.ProjIdeal.main_v53)) (v8 : (c : Dev Cert.ProjIdeal.nD) → Buf (Elt Ideal) ((c.tc : Thread Cert.ProjIdeal.nD Cert.ProjIdeal.τ).loc Cert.ProjIdeal.main_v55)) (v9 : (c : Dev Cert.ProjIdeal.nD) → Buf (Elt Ideal) ((c.tc : Thread Cert.ProjIdeal.nD Cert.ProjIdeal.τ).loc Cert.ProjIdeal.main_v57)) (v10 : (c : Dev Cert.ProjIdeal.nD) → Buf (Elt Ideal) ((c.tc : Thread Cert.ProjIdeal.nD Cert.ProjIdeal.τ).loc Cert.ProjIdeal.main_v59)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38) = v0 c
          ∧ r.2.mem ((c.tc : Thread Cert.ProjIdeal.nD Cert.ProjIdeal.τ).loc Cert.ProjIdeal.main_v40) = v1 c
          ∧ r.2.mem ((c.tc : Thread Cert.ProjIdeal.nD Cert.ProjIdeal.τ).loc Cert.ProjIdeal.main_v42) = v2 c
          ∧ r.2.mem ((c.tc : Thread Cert.ProjIdeal.nD Cert.ProjIdeal.τ).loc Cert.ProjIdeal.main_v45) = v3 c
          ∧ r.2.mem ((c.tc : Thread Cert.ProjIdeal.nD Cert.ProjIdeal.τ).loc Cert.ProjIdeal.main_v47) = v4 c
          ∧ r.2.mem ((c.tc : Thread Cert.ProjIdeal.nD Cert.ProjIdeal.τ).loc Cert.ProjIdeal.main_v49) = v5 c
          ∧ r.2.mem ((c.tc : Thread Cert.ProjIdeal.nD Cert.ProjIdeal.τ).loc Cert.ProjIdeal.main_v51) = v6 c
          ∧ r.2.mem ((c.tc : Thread Cert.ProjIdeal.nD Cert.ProjIdeal.τ).loc Cert.ProjIdeal.main_v53) = v7 c
          ∧ r.2.mem ((c.tc : Thread Cert.ProjIdeal.nD Cert.ProjIdeal.τ).loc Cert.ProjIdeal.main_v55) = v8 c
          ∧ r.2.mem ((c.tc : Thread Cert.ProjIdeal.nD Cert.ProjIdeal.τ).loc Cert.ProjIdeal.main_v57) = v9 c
          ∧ r.2.mem ((c.tc : Thread Cert.ProjIdeal.nD Cert.ProjIdeal.τ).loc Cert.ProjIdeal.main_v59) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v55) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v29) = v2 c
          ∧ r.2.mem ((c.tc : Thread Cert.ProjRefIdeal.nD Cert.ProjRefIdeal.τ).loc Cert.ProjRefIdeal.main_v59) = v3 c
          ∧ r.2.mem ((c.tc : Thread Cert.ProjRefIdeal.nD Cert.ProjRefIdeal.τ).loc Cert.ProjRefIdeal.main_v42) = v4 c
          ∧ r.2.mem ((c.tc : Thread Cert.ProjRefIdeal.nD Cert.ProjRefIdeal.τ).loc Cert.ProjRefIdeal.main_v56) = v5 c
          ∧ r.2.mem ((c.tc : Thread Cert.ProjRefIdeal.nD Cert.ProjRefIdeal.τ).loc Cert.ProjRefIdeal.main_v80) = v6 c
          ∧ r.2.mem ((c.tc : Thread Cert.ProjRefIdeal.nD Cert.ProjRefIdeal.τ).loc Cert.ProjRefIdeal.main_v87) = v7 c
          ∧ r.2.mem ((c.tc : Thread Cert.ProjRefIdeal.nD Cert.ProjRefIdeal.τ).loc Cert.ProjRefIdeal.main_v94) = v8 c
          ∧ r.2.mem ((c.tc : Thread Cert.ProjRefIdeal.nD Cert.ProjRefIdeal.τ).loc Cert.ProjRefIdeal.main_v72) = v9 c
          ∧ r.2.mem ((c.tc : Thread Cert.ProjRefIdeal.nD Cert.ProjRefIdeal.τ).loc Cert.ProjRefIdeal.main_v78) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
      ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)
      ∧ m' ((c.tc : Thread Cert.ProjSampleRefIdeal.nD Cert.ProjSampleRefIdeal.τ).loc Cert.ProjSampleRefIdeal.main_arg6) = m ((c.tc : Thread Cert.ProjSampleIdeal.nD Cert.ProjSampleIdeal.τ).loc Cert.ProjSampleIdeal.main_arg6)
      ∧ m' ((c.tc : Thread Cert.ProjSampleRefIdeal.nD Cert.ProjSampleRefIdeal.τ).loc Cert.ProjSampleRefIdeal.main_arg7) = m ((c.tc : Thread Cert.ProjSampleIdeal.nD Cert.ProjSampleIdeal.τ).loc Cert.ProjSampleIdeal.main_arg7)) →
    ∃ (v0 : (c : Dev Cert.ProjSampleIdeal.nD) → Buf (Elt Ideal) ((c.tc : Thread Cert.ProjSampleIdeal.nD Cert.ProjSampleIdeal.τ).loc Cert.ProjSampleIdeal.main_v57)) (v1 : (c : Dev Cert.ProjSampleIdeal.nD) → Buf (Elt Ideal) ((c.tc : Thread Cert.ProjSampleIdeal.nD Cert.ProjSampleIdeal.τ).loc Cert.ProjSampleIdeal.main_v58)) (v2 : (c : Dev Cert.ProjSampleIdeal.nD) → Buf (Elt Ideal) ((c.tc : Thread Cert.ProjSampleIdeal.nD Cert.ProjSampleIdeal.τ).loc Cert.ProjSampleIdeal.main_v59)) (v3 : (c : Dev Cert.ProjSampleIdeal.nD) → Buf (Elt Ideal) ((c.tc : Thread Cert.ProjSampleIdeal.nD Cert.ProjSampleIdeal.τ).loc Cert.ProjSampleIdeal.main_v44)) (v4 : (c : Dev Cert.ProjSampleIdeal.nD) → Buf (Elt Ideal) ((c.tc : Thread Cert.ProjSampleIdeal.nD Cert.ProjSampleIdeal.τ).loc Cert.ProjSampleIdeal.main_v46)) (v5 : (c : Dev Cert.ProjSampleIdeal.nD) → Buf (Elt Ideal) ((c.tc : Thread Cert.ProjSampleIdeal.nD Cert.ProjSampleIdeal.τ).loc Cert.ProjSampleIdeal.main_v48)) (v6 : (c : Dev Cert.ProjSampleIdeal.nD) → Buf (Elt Ideal) ((c.tc : Thread Cert.ProjSampleIdeal.nD Cert.ProjSampleIdeal.τ).loc Cert.ProjSampleIdeal.main_v50)) (v7 : (c : Dev Cert.ProjSampleIdeal.nD) → Buf (Elt Ideal) ((c.tc : Thread Cert.ProjSampleIdeal.nD Cert.ProjSampleIdeal.τ).loc Cert.ProjSampleIdeal.main_v52)) (v8 : (c : Dev Cert.ProjSampleIdeal.nD) → Buf (Elt Ideal) ((c.tc : Thread Cert.ProjSampleIdeal.nD Cert.ProjSampleIdeal.τ).loc Cert.ProjSampleIdeal.main_v54)) (v9 : (c : Dev Cert.ProjSampleIdeal.nD) → Buf (Elt Ideal) ((c.tc : Thread Cert.ProjSampleIdeal.nD Cert.ProjSampleIdeal.τ).loc Cert.ProjSampleIdeal.main_v56)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v57) = v0 c
          ∧ r.2.mem ((c.tc : Thread Cert.ProjSampleIdeal.nD Cert.ProjSampleIdeal.τ).loc Cert.ProjSampleIdeal.main_v58) = v1 c
          ∧ r.2.mem ((c.tc : Thread Cert.ProjSampleIdeal.nD Cert.ProjSampleIdeal.τ).loc Cert.ProjSampleIdeal.main_v59) = v2 c
          ∧ r.2.mem ((c.tc : Thread Cert.ProjSampleIdeal.nD Cert.ProjSampleIdeal.τ).loc Cert.ProjSampleIdeal.main_v44) = v3 c
          ∧ r.2.mem ((c.tc : Thread Cert.ProjSampleIdeal.nD Cert.ProjSampleIdeal.τ).loc Cert.ProjSampleIdeal.main_v46) = v4 c
          ∧ r.2.mem ((c.tc : Thread Cert.ProjSampleIdeal.nD Cert.ProjSampleIdeal.τ).loc Cert.ProjSampleIdeal.main_v48) = v5 c
          ∧ r.2.mem ((c.tc : Thread Cert.ProjSampleIdeal.nD Cert.ProjSampleIdeal.τ).loc Cert.ProjSampleIdeal.main_v50) = v6 c
          ∧ r.2.mem ((c.tc : Thread Cert.ProjSampleIdeal.nD Cert.ProjSampleIdeal.τ).loc Cert.ProjSampleIdeal.main_v52) = v7 c
          ∧ r.2.mem ((c.tc : Thread Cert.ProjSampleIdeal.nD Cert.ProjSampleIdeal.τ).loc Cert.ProjSampleIdeal.main_v54) = v8 c
          ∧ r.2.mem ((c.tc : Thread Cert.ProjSampleIdeal.nD Cert.ProjSampleIdeal.τ).loc Cert.ProjSampleIdeal.main_v56) = v9 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
          ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v55) = v0 c
          ∧ r.2.mem ((c.tc : Thread Cert.ProjSampleRefIdeal.nD Cert.ProjSampleRefIdeal.τ).loc Cert.ProjSampleRefIdeal.main_v24) = v1 c
          ∧ r.2.mem ((c.tc : Thread Cert.ProjSampleRefIdeal.nD Cert.ProjSampleRefIdeal.τ).loc Cert.ProjSampleRefIdeal.main_v29) = v2 c
          ∧ r.2.mem ((c.tc : Thread Cert.ProjSampleRefIdeal.nD Cert.ProjSampleRefIdeal.τ).loc Cert.ProjSampleRefIdeal.main_v42) = v3 c
          ∧ r.2.mem ((c.tc : Thread Cert.ProjSampleRefIdeal.nD Cert.ProjSampleRefIdeal.τ).loc Cert.ProjSampleRefIdeal.main_v56) = v4 c
          ∧ r.2.mem ((c.tc : Thread Cert.ProjSampleRefIdeal.nD Cert.ProjSampleRefIdeal.τ).loc Cert.ProjSampleRefIdeal.main_v77) = v5 c
          ∧ r.2.mem ((c.tc : Thread Cert.ProjSampleRefIdeal.nD Cert.ProjSampleRefIdeal.τ).loc Cert.ProjSampleRefIdeal.main_v84) = v6 c
          ∧ r.2.mem ((c.tc : Thread Cert.ProjSampleRefIdeal.nD Cert.ProjSampleRefIdeal.τ).loc Cert.ProjSampleRefIdeal.main_v91) = v7 c
          ∧ r.2.mem ((c.tc : Thread Cert.ProjSampleRefIdeal.nD Cert.ProjSampleRefIdeal.τ).loc Cert.ProjSampleRefIdeal.main_v69) = v8 c
          ∧ r.2.mem ((c.tc : Thread Cert.ProjSampleRefIdeal.nD Cert.ProjSampleRefIdeal.τ).loc Cert.ProjSampleRefIdeal.main_v75) = v9 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4)
          ∧ r.2.mem ((c.tc : Thread Cert.ProjSampleRefIdeal.nD Cert.ProjSampleRefIdeal.τ).loc Cert.ProjSampleRefIdeal.main_arg5) = m' ((c.tc : Thread Cert.ProjSampleRefIdeal.nD Cert.ProjSampleRefIdeal.τ).loc Cert.ProjSampleRefIdeal.main_arg5)
          ∧ r.2.mem ((c.tc : Thread Cert.ProjSampleRefIdeal.nD Cert.ProjSampleRefIdeal.τ).loc Cert.ProjSampleRefIdeal.main_arg6) = m' ((c.tc : Thread Cert.ProjSampleRefIdeal.nD Cert.ProjSampleRefIdeal.τ).loc Cert.ProjSampleRefIdeal.main_arg6)
          ∧ r.2.mem ((c.tc : Thread Cert.ProjSampleRefIdeal.nD Cert.ProjSampleRefIdeal.τ).loc Cert.ProjSampleRefIdeal.main_arg7) = m' ((c.tc : Thread Cert.ProjSampleRefIdeal.nD Cert.ProjSampleRefIdeal.τ).loc Cert.ProjSampleRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v14) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v10)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v27) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_PleSample_PleSampleIdeal : Prop :=
  True

def algebraic_PleSampleIdeal_PleSampleRefIdeal [hPleSampleIdeal : Cert.PleSampleIdeal.Facts] [hPleSampleRefIdeal : Cert.PleSampleRefIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleRefIdeal.nD Cert.PleSampleRefIdeal.τ Cert.PleSampleRefIdeal.sig) → Buf (Elt Ideal) ℓ) (g' : Dev Cert.PleSampleRefIdeal.nD → PrngReg), Pre_PleSampleIdeal m →
    (∀ c : Dev Cert.PleSampleIdeal.nD,
      m' ((c.tc : Thread Cert.PleSampleRefIdeal.nD Cert.PleSampleRefIdeal.τ).loc Cert.PleSampleRefIdeal.main_arg0) = m ((c.tc : Thread Cert.PleSampleIdeal.nD Cert.PleSampleIdeal.τ).loc Cert.PleSampleIdeal.main_arg0)
      ∧ m' ((c.tc : Thread Cert.PleSampleRefIdeal.nD Cert.PleSampleRefIdeal.τ).loc Cert.PleSampleRefIdeal.main_arg1) = m ((c.tc : Thread Cert.PleSampleIdeal.nD Cert.PleSampleIdeal.τ).loc Cert.PleSampleIdeal.main_arg1)
      ∧ m' ((c.tc : Thread Cert.PleSampleRefIdeal.nD Cert.PleSampleRefIdeal.τ).loc Cert.PleSampleRefIdeal.main_arg2) = m ((c.tc : Thread Cert.PleSampleIdeal.nD Cert.PleSampleIdeal.τ).loc Cert.PleSampleIdeal.main_arg2)
      ∧ m' ((c.tc : Thread Cert.PleSampleRefIdeal.nD Cert.PleSampleRefIdeal.τ).loc Cert.PleSampleRefIdeal.main_arg3) = m ((c.tc : Thread Cert.PleSampleIdeal.nD Cert.PleSampleIdeal.τ).loc Cert.PleSampleIdeal.main_arg3)
      ∧ m' ((c.tc : Thread Cert.PleSampleRefIdeal.nD Cert.PleSampleRefIdeal.τ).loc Cert.PleSampleRefIdeal.main_arg4) = m ((c.tc : Thread Cert.PleSampleIdeal.nD Cert.PleSampleIdeal.τ).loc Cert.PleSampleIdeal.main_arg4)) →
    ∃ (v0 : (c : Dev Cert.PleSampleIdeal.nD) → Buf (Elt Ideal) ((c.tc : Thread Cert.PleSampleIdeal.nD Cert.PleSampleIdeal.τ).loc Cert.PleSampleIdeal.main_v10)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v10) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ θ_run (Cert.PleSampleRefIdeal.defs (F := Ideal)) (onTc (τ := Cert.PleSampleRefIdeal.τ) (Cert.PleSampleRefIdeal.main (F := Ideal))) ⟨m', fun _ => 0, g'⟩ (fun r => ∀ c : Dev Cert.PleSampleRefIdeal.nD,
          r.2.mem ((c.tc : Thread Cert.PleSampleRefIdeal.nD Cert.PleSampleRefIdeal.τ).loc Cert.PleSampleRefIdeal.main_v27) = v0 c
          ∧ r.2.mem ((c.tc : Thread Cert.PleSampleRefIdeal.nD Cert.PleSampleRefIdeal.τ).loc Cert.PleSampleRefIdeal.main_arg0) = m' ((c.tc : Thread Cert.PleSampleRefIdeal.nD Cert.PleSampleRefIdeal.τ).loc Cert.PleSampleRefIdeal.main_arg0)
          ∧ r.2.mem ((c.tc : Thread Cert.PleSampleRefIdeal.nD Cert.PleSampleRefIdeal.τ).loc Cert.PleSampleRefIdeal.main_arg1) = m' ((c.tc : Thread Cert.PleSampleRefIdeal.nD Cert.PleSampleRefIdeal.τ).loc Cert.PleSampleRefIdeal.main_arg1)
          ∧ r.2.mem ((c.tc : Thread Cert.PleSampleRefIdeal.nD Cert.PleSampleRefIdeal.τ).loc Cert.PleSampleRefIdeal.main_arg2) = m' ((c.tc : Thread Cert.PleSampleRefIdeal.nD Cert.PleSampleRefIdeal.τ).loc Cert.PleSampleRefIdeal.main_arg2)
          ∧ r.2.mem ((c.tc : Thread Cert.PleSampleRefIdeal.nD Cert.PleSampleRefIdeal.τ).loc Cert.PleSampleRefIdeal.main_arg3) = m' ((c.tc : Thread Cert.PleSampleRefIdeal.nD Cert.PleSampleRefIdeal.τ).loc Cert.PleSampleRefIdeal.main_arg3)
          ∧ r.2.mem ((c.tc : Thread Cert.PleSampleRefIdeal.nD Cert.PleSampleRefIdeal.τ).loc Cert.PleSampleRefIdeal.main_arg4) = m' ((c.tc : Thread Cert.PleSampleRefIdeal.nD Cert.PleSampleRefIdeal.τ).loc Cert.PleSampleRefIdeal.main_arg4))

def Claim : Prop :=
  ∃ (hGdnSample : Cert.GdnSample.Facts) (hGdnSampleIdeal : Cert.GdnSampleIdeal.Facts) (hGdnSampleRefIdeal : Cert.GdnSampleRefIdeal.Facts) (hProj : Cert.Proj.Facts) (hProjIdeal : Cert.ProjIdeal.Facts) (hProjRefIdeal : Cert.ProjRefIdeal.Facts) (hProjSample : Cert.ProjSample.Facts) (hProjSampleIdeal : Cert.ProjSampleIdeal.Facts) (hProjSampleRefIdeal : Cert.ProjSampleRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hPleSample : Cert.PleSample.Facts) (hPleSampleIdeal : Cert.PleSampleIdeal.Facts) (hPleSampleRefIdeal : Cert.PleSampleRefIdeal.Facts),
    quiescent_GdnSample (hGdnSample := hGdnSample)
    ∧ quiescent_GdnSampleIdeal (hGdnSampleIdeal := hGdnSampleIdeal)
    ∧ quiescent_GdnSampleRefIdeal (hGdnSampleRefIdeal := hGdnSampleRefIdeal)
    ∧ quiescent_Proj (hProj := hProj)
    ∧ quiescent_ProjIdeal (hProjIdeal := hProjIdeal)
    ∧ quiescent_ProjRefIdeal (hProjRefIdeal := hProjRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_PleSample (hPleSample := hPleSample)
    ∧ quiescent_PleSampleIdeal (hPleSampleIdeal := hPleSampleIdeal)
    ∧ quiescent_PleSampleRefIdeal (hPleSampleRefIdeal := hPleSampleRefIdeal)
    ∧ preserves_GdnSample_GdnSampleIdeal
    ∧ algebraic_GdnSampleIdeal_GdnSampleRefIdeal (hGdnSampleIdeal := hGdnSampleIdeal) (hGdnSampleRefIdeal := hGdnSampleRefIdeal)
    ∧ preserves_Proj_ProjIdeal
    ∧ algebraic_ProjIdeal_ProjRefIdeal (hProjIdeal := hProjIdeal) (hProjRefIdeal := hProjRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_PleSample_PleSampleIdeal
    ∧ algebraic_PleSampleIdeal_PleSampleRefIdeal (hPleSampleIdeal := hPleSampleIdeal) (hPleSampleRefIdeal := hPleSampleRefIdeal)
-- ==== GdnSample.lean ====
abbrev S32x11776 : Shape := ⟨2, ![32, 11776]⟩
abbrev S32x3x3072 : Shape := ⟨3, ![32, 3, 3072]⟩
abbrev S4x3072 : Shape := ⟨2, ![4, 3072]⟩
abbrev S128 : Shape := ⟨1, ![128]⟩
abbrev S32x8x128x128 : Shape := ⟨4, ![32, 8, 128, 128]⟩
abbrev S32x128 : Shape := ⟨2, ![32, 128]⟩
abbrev S32x3072 : Shape := ⟨2, ![32, 3072]⟩
abbrev S32x24x128 : Shape := ⟨3, ![32, 24, 128]⟩
abbrev S32x1024 : Shape := ⟨2, ![32, 1024]⟩
abbrev S32x8x128 : Shape := ⟨3, ![32, 8, 128]⟩
abbrev S32x3x24x128 : Shape := ⟨4, ![32, 3, 24, 128]⟩
abbrev S4x24x128 : Shape := ⟨3, ![4, 24, 128]⟩
abbrev S32x1x128 : Shape := ⟨3, ![32, 1, 128]⟩
abbrev S1x128 : Shape := ⟨2, ![1, 128]⟩
abbrev S1x24x128 : Shape := ⟨3, ![1, 24, 128]⟩
abbrev S1x3x24x128 : Shape := ⟨4, ![1, 3, 24, 128]⟩
abbrev S1x1x128 : Shape := ⟨3, ![1, 1, 128]⟩
abbrev S1x8x128 : Shape := ⟨3, ![1, 8, 128]⟩
abbrev S1x8x128x128 : Shape := ⟨4, ![1, 8, 128, 128]⟩
abbrev S24x128 : Shape := ⟨2, ![24, 128]⟩
abbrev S3x24x128 : Shape := ⟨3, ![3, 24, 128]⟩
abbrev S2x24x128 : Shape := ⟨3, ![2, 24, 128]⟩
abbrev S1x2x24x128 : Shape := ⟨4, ![1, 2, 24, 128]⟩
abbrev S1x1x24x128 : Shape := ⟨4, ![1, 1, 24, 128]⟩
abbrev S24 : Shape := ⟨1, ![24]⟩
abbrev S24x1 : Shape := ⟨2, ![24, 1]⟩
abbrev S112x128 : Shape := ⟨2, ![112, 128]⟩
abbrev S16x128 : Shape := ⟨2, ![16, 128]⟩
abbrev S128x128 : Shape := ⟨2, ![128, 128]⟩
abbrev S128x1 : Shape := ⟨2, ![128, 1]⟩
abbrev S1x1 : Shape := ⟨2, ![1, 1]⟩
abbrev S1x1x128x128 : Shape := ⟨4, ![1, 1, 128, 128]⟩
abbrev S8x128 : Shape := ⟨2, ![8, 128]⟩
abbrev S8 : Shape := ⟨1, ![8]⟩
abbrev S8x1 : Shape := ⟨2, ![8, 1]⟩

abbrev nBuf : Space → Nat
  | .hbm => 17
  | .vmem => 18
  | .smem => 0
  | _ => 0

abbrev bufTy : (tb : Table) → Fin (tcTables nBuf tb) → BufTy
  | .hbm, ⟨0, _⟩ => ⟨S32x11776, .f32⟩
  | .hbm, ⟨1, _⟩ => ⟨S32x3x3072, .f32⟩
  | .hbm, ⟨2, _⟩ => ⟨S4x3072, .f32⟩
  | .hbm, ⟨3, _⟩ => ⟨S128, .f32⟩
  | .hbm, ⟨4, _⟩ => ⟨S32x8x128x128, .f32⟩
  | .hbm, ⟨5, _⟩ => ⟨S32x128, .f32⟩
  | .hbm, ⟨6, _⟩ => ⟨S32x3072, .f32⟩
  | .hbm, ⟨7, _⟩ => ⟨S32x24x128, .f32⟩
  | .hbm, ⟨8, _⟩ => ⟨S32x1024, .f32⟩
  | .hbm, ⟨9, _⟩ => ⟨S32x8x128, .f32⟩
  | .hbm, ⟨10, _⟩ => ⟨S32x3x24x128, .f32⟩
  | .hbm, ⟨11, _⟩ => ⟨S4x24x128, .f32⟩
  | .hbm, ⟨12, _⟩ => ⟨S32x1x128, .f32⟩
  | .hbm, ⟨13, _⟩ => ⟨S1x128, .f32⟩
  | .hbm, ⟨14, _⟩ => ⟨S32x8x128, .bf16⟩
  | .hbm, ⟨15, _⟩ => ⟨S32x8x128x128, .f32⟩
  | .hbm, ⟨16, _⟩ => ⟨S32x3x24x128, .f32⟩
  | .local _ .vmem, ⟨0, _⟩ => ⟨S1x24x128, .f32⟩
  | .local _ .vmem, ⟨1, _⟩ => ⟨S1x24x128, .f32⟩
  | .local _ .vmem, ⟨2, _⟩ => ⟨S1x3x24x128, .f32⟩
  | .local _ .vmem, ⟨3, _⟩ => ⟨S1x3x24x128, .f32⟩
  | .local _ .vmem, ⟨4, _⟩ => ⟨S4x24x128, .f32⟩
  | .local _ .vmem, ⟨5, _⟩ => ⟨S1x1x128, .f32⟩
  | .local _ .vmem, ⟨6, _⟩ => ⟨S1x1x128, .f32⟩
  | .local _ .vmem, ⟨7, _⟩ => ⟨S1x8x128, .f32⟩
  | .local _ .vmem, ⟨8, _⟩ => ⟨S1x8x128, .f32⟩
  | .local _ .vmem, ⟨9, _⟩ => ⟨S1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x8x128, .bf16⟩
  | .local _ .vmem, ⟨13, _⟩ => ⟨S1x8x128, .bf16⟩
  | .local _ .vmem, ⟨14, _⟩ => ⟨S1x8x128x128, .f32⟩
  | .local _ .vmem, ⟨15, _⟩ => ⟨S1x8x128x128, .f32⟩
  | .local _ .vmem, ⟨16, _⟩ => ⟨S1x3x24x128, .f32⟩
  | .local _ .vmem, ⟨17, _⟩ => ⟨S1x3x24x128, .f32⟩
  | _, _ => ⟨S32x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x24x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GdnSampleRefIdeal.lean ====
abbrev S32x11776 : Shape := ⟨2, ![32, 11776]⟩
abbrev S32x3x3072 : Shape := ⟨3, ![32, 3, 3072]⟩
abbrev S4x3072 : Shape := ⟨2, ![4, 3072]⟩
abbrev S128 : Shape := ⟨1, ![128]⟩
abbrev S32x8x128x128 : Shape := ⟨4, ![32, 8, 128, 128]⟩
abbrev S32x1x11776 : Shape := ⟨3, ![32, 1, 11776]⟩
abbrev S32x1x3072 : Shape := ⟨3, ![32, 1, 3072]⟩
abbrev S32x4x3072 : Shape := ⟨3, ![32, 4, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S32x1x1024 : Shape := ⟨3, ![32, 1, 1024]⟩
abbrev S32x1x8x128 : Shape := ⟨4, ![32, 1, 8, 128]⟩
abbrev S32x1x8 : Shape := ⟨3, ![32, 1, 8]⟩
abbrev S32x1x8x1 : Shape := ⟨4, ![32, 1, 8, 1]⟩
abbrev S32x8x128 : Shape := ⟨3, ![32, 8, 128]⟩
abbrev S32x8 : Shape := ⟨2, ![32, 8]⟩
abbrev S32x8x1x1 : Shape := ⟨4, ![32, 8, 1, 1]⟩
abbrev S32x8x128x1 : Shape := ⟨4, ![32, 8, 128, 1]⟩
abbrev S32x8x1 : Shape := ⟨3, ![32, 8, 1]⟩
abbrev S32x8x1x128 : Shape := ⟨4, ![32, 8, 1, 128]⟩
abbrev S1x1x1x128 : Shape := ⟨4, ![1, 1, 1, 128]⟩
abbrev S32x3x24x128 : Shape := ⟨4, ![32, 3, 24, 128]⟩

abbrev nBuf : Space → Nat
  | .hbm => 129
  | .vmem => 0
  | .smem => 0
  | _ => 0

abbrev hbmTy0_0 (i : Nat) : BufTy := match i % 128 with
  | 0 => ⟨S32x11776, .f32⟩
  | 1 => ⟨S32x3x3072, .f32⟩
  | 2 => ⟨S4x3072, .f32⟩
  | 3 => ⟨S128, .f32⟩
  | 4 => ⟨S32x8x128x128, .f32⟩
  | 5 => ⟨S32x1x11776, .f32⟩
  | 6 => ⟨S32x1x3072, .f32⟩
  | 7 => ⟨S32x4x3072, .f32⟩
  | 8 => ⟨S32x1x3072, .f32⟩
  | 9 => ⟨S1x3072, .f32⟩
  | 10 => ⟨S3072, .f32⟩
  | 11 => ⟨S1x1x3072, .f32⟩
  | 12 => ⟨S32x1x3072, .f32⟩
  | 13 => ⟨S32x1x3072, .f32⟩
  | 14 => ⟨S32x1x3072, .f32⟩
  | 15 => ⟨S1x3072, .f32⟩
  | 16 => ⟨S3072, .f32⟩
  | 17 => ⟨S1x1x3072, .f32⟩
  | 18 => ⟨S32x1x3072, .f32⟩
  | 19 => ⟨S32x1x3072, .f32⟩
  | 20 => ⟨S32x1x3072, .f32⟩
  | 21 => ⟨S32x1x3072, .f32⟩
  | 22 => ⟨S1x3072, .f32⟩
  | 23 => ⟨S3072, .f32⟩
  | 24 => ⟨S1x1x3072, .f32⟩
  | 25 => ⟨S32x1x3072, .f32⟩
  | 26 => ⟨S32x1x3072, .f32⟩
  | 27 => ⟨S32x1x3072, .f32⟩
  | 28 => ⟨S32x1x3072, .f32⟩
  | 29 => ⟨S1x3072, .f32⟩
  | 30 => ⟨S3072, .f32⟩
  | 31 => ⟨S1x1x3072, .f32⟩
  | 32 => ⟨S32x1x3072, .f32⟩
  | 33 => ⟨S32x1x3072, .f32⟩
  | 34 => ⟨S32x1x3072, .f32⟩
  | 35 => ⟨S32x1x3072, .f32⟩
  | 36 => ⟨S32x1x3072, .f32⟩
  | 37 => ⟨S_, .f32⟩
  | 38 => ⟨S32x1x3072, .f32⟩
  | 39 => ⟨S32x1x3072, .f32⟩
  | 40 => ⟨S_, .f32⟩
  | 41 => ⟨S32x1x3072, .f32⟩
  | 42 => ⟨S32x1x3072, .f32⟩
  | 43 => ⟨S32x1x3072, .f32⟩
  | 44 => ⟨S32x3x3072, .f32⟩
  | 45 => ⟨S32x1x1024, .f32⟩
  | 46 => ⟨S32x1x8x128, .f32⟩
  | 47 => ⟨S32x1x8x128, .f32⟩
  | 48 => ⟨S_, .f32⟩
  | 49 => ⟨S32x1x8, .f32⟩
  | 50 => ⟨S32x1x8x1, .f32⟩
  | 51 => ⟨S_, .f32⟩
  | 52 => ⟨S32x1x8x1, .f32⟩
  | 53 => ⟨S32x1x8x1, .f32⟩
  | 54 => ⟨S32x1x8x1, .f32⟩
  | 55 => ⟨S32x1x8x128, .f32⟩
  | 56 => ⟨S32x1x8x128, .f32⟩
  | 57 => ⟨S_, .f32⟩
  | 58 => ⟨S32x1x8x128, .f32⟩
  | 59 => ⟨S32x1x8x128, .f32⟩
  | 60 => ⟨S32x1x1024, .f32⟩
  | 61 => ⟨S32x1x8x128, .f32⟩
  | 62 => ⟨S32x1x8x128, .f32⟩
  | 63 => ⟨S_, .f32⟩
  | 64 => ⟨S32x1x8, .f32⟩
  | 65 => ⟨S32x1x8x1, .f32⟩
  | 66 => ⟨S_, .f32⟩
  | 67 => ⟨S32x1x8x1, .f32⟩
  | 68 => ⟨S32x1x8x1, .f32⟩
  | 69 => ⟨S32x1x8x1, .f32⟩
  | 70 => ⟨S32x1x8x128, .f32⟩
  | 71 => ⟨S32x1x8x128, .f32⟩
  | 72 => ⟨S32x1x1024, .f32⟩
  | 73 => ⟨S32x1x8x128, .f32⟩
  | 74 => ⟨S32x1x8, .f32⟩
  | 75 => ⟨S32x1x8, .f32⟩
  | 76 => ⟨S32x1x1024, .f32⟩
  | 77 => ⟨S32x1x8x128, .f32⟩
  | 78 => ⟨S32x8x128, .f32⟩
  | 79 => ⟨S32x8x128, .f32⟩
  | 80 => ⟨S32x8x128, .f32⟩
  | 81 => ⟨S32x8, .f32⟩
  | 82 => ⟨S32x8, .f32⟩
  | 83 => ⟨S32x8, .f32⟩
  | 84 => ⟨S32x8x1x1, .f32⟩
  | 85 => ⟨S32x8x128x128, .f32⟩
  | 86 => ⟨S32x8x128x128, .f32⟩
  | 87 => ⟨S32x8x128, .f32⟩
  | 88 => ⟨S32x8x128x1, .f32⟩
  | 89 => ⟨S32x8x128, .f32⟩
  | 90 => ⟨S32x8x1, .f32⟩
  | 91 => ⟨S32x8x128, .f32⟩
  | 92 => ⟨S32x8x128, .f32⟩
  | 93 => ⟨S32x8x1x128, .f32⟩
  | 94 => ⟨S32x8x128x128, .f32⟩
  | 95 => ⟨S32x8x128x128, .f32⟩
  | 96 => ⟨S32x8x128x128, .f32⟩
  | 97 => ⟨S32x8x128x128, .f32⟩
  | 98 => ⟨S32x8x128, .f32⟩
  | 99 => ⟨S32x1x8x128, .f32⟩
  | 100 => ⟨S32x1x8x128, .f32⟩
  | 101 => ⟨S_, .f32⟩
  | 102 => ⟨S32x1x8, .f32⟩
  | 103 => ⟨S32x1x8x1, .f32⟩
  | 104 => ⟨S_, .f32⟩
  | 105 => ⟨S32x1x8x1, .f32⟩
  | 106 => ⟨S32x1x8x1, .f32⟩
  | 107 => ⟨S_, .f32⟩
  | 108 => ⟨S32x1x8x1, .f32⟩
  | 109 => ⟨S32x1x8x1, .f32⟩
  | 110 => ⟨S32x1x8x1, .f32⟩
  | 111 => ⟨S32x1x8x128, .f32⟩
  | 112 => ⟨S32x1x8x128, .f32⟩
  | 113 => ⟨S1x1x1x128, .f32⟩
  | 114 => ⟨S32x1x8x128, .f32⟩
  | 115 => ⟨S32x1x8x128, .f32⟩
  | 116 => ⟨S32x1x8x128, .f32⟩
  | 117 => ⟨S32x1x8x128, .f32⟩
  | 118 => ⟨S_, .f32⟩
  | 119 => ⟨S32x1x8x128, .f32⟩
  | 120 => ⟨S32x1x8x128, .f32⟩
  | 121 => ⟨S_, .f32⟩
  | 122 => ⟨S32x1x8x128, .f32⟩
  | 123 => ⟨S32x1x8x128, .f32⟩
  | 124 => ⟨S32x1x8x128, .f32⟩
  | 125 => ⟨S32x1x8x128, .f32⟩
  | 126 => ⟨S32x8x128, .f32⟩
  | 127 => ⟨S32x8x128, .bf16⟩
  | _ => ⟨S32x11776, .f32⟩

abbrev hbmTy0_1 (i : Nat) : BufTy := match i % 128 with
  | 0 => ⟨S32x3x24x128, .f32⟩
  | _ => ⟨S32x11776, .f32⟩

abbrev hbmTy (i : Nat) : BufTy := match i / 128 with
  | 0 => hbmTy0_0 i
  | 1 => hbmTy0_1 i
  | _ => ⟨S32x11776, .f32⟩

abbrev bufTy : (tb : Table) → Fin (tcTables nBuf tb) → BufTy
  | .hbm, ⟨i, _⟩ => hbmTy i
  | _, _ => ⟨S32x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_1 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_v48 : Ref sig .tc := ⟨.hbm, 65, rfl⟩
abbrev main_cst_3 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_4 : Ref sig .tc := ⟨.hbm, 101, rfl⟩
abbrev main_v83 : Ref sig .tc := ⟨.hbm, 102, rfl⟩
abbrev main_v84 : Ref sig .tc := ⟨.hbm, 103, rfl⟩
abbrev main_cst_5 : Ref sig .tc := ⟨.hbm, 104, rfl⟩
abbrev main_v85 : Ref sig .tc := ⟨.hbm, 105, rfl⟩
abbrev main_v86 : Ref sig .tc := ⟨.hbm, 106, rfl⟩
abbrev main_cst_6 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proj.lean ====
abbrev S8x2048x2048 : Shape := ⟨3, ![8, 2048, 2048]⟩
abbrev S1x2048 : Shape := ⟨2, ![1, 2048]⟩
abbrev S1x2048x11288 : Shape := ⟨3, ![1, 2048, 11288]⟩
abbrev S1x8 : Shape := ⟨2, ![1, 8]⟩
abbrev S1x128 : Shape := ⟨2, ![1, 128]⟩
abbrev S2048 : Shape := ⟨1, ![2048]⟩
abbrev S2048x11288 : Shape := ⟨2, ![2048, 11288]⟩
abbrev S8 : Shape := ⟨1, ![8]⟩
abbrev S128 : Shape := ⟨1, ![128]⟩
abbrev S2048x8 : Shape := ⟨2, ![2048, 8]⟩
abbrev S2048x24 : Shape := ⟨2, ![2048, 24]⟩
abbrev S_ : Shape := ⟨0, ![]⟩
abbrev S2048x512 : Shape := ⟨2, ![2048, 512]⟩
abbrev S2048x3072 : Shape := ⟨2, ![2048, 3072]⟩
abbrev S2048x5120 : Shape := ⟨2, ![2048, 5120]⟩
abbrev S2048x11776 : Shape := ⟨2, ![2048, 11776]⟩
abbrev S8x128 : Shape := ⟨2, ![8, 128]⟩
abbrev S1024 : Shape := ⟨1, ![1024]⟩
abbrev S9728 : Shape := ⟨1, ![9728]⟩
abbrev S11776 : Shape := ⟨1, ![11776]⟩
abbrev S1x11776 : Shape := ⟨2, ![1, 11776]⟩
abbrev S112 : Shape := ⟨1, ![112]⟩
abbrev S2x128 : Shape := ⟨2, ![2, 128]⟩
abbrev S16384x2048 : Shape := ⟨2, ![16384, 2048]⟩
abbrev S16384x11776 : Shape := ⟨2, ![16384, 11776]⟩
abbrev S512x2048 : Shape := ⟨2, ![512, 2048]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S512x384 : Shape := ⟨2, ![512, 384]⟩
abbrev S16384x1024 : Shape := ⟨2, ![16384, 1024]⟩
abbrev S8x2048x8x128 : Shape := ⟨4, ![8, 2048, 8, 128]⟩
abbrev S16384x8 : Shape := ⟨2, ![16384, 8]⟩
abbrev S8x2048x8 : Shape := ⟨3, ![8, 2048, 8]⟩
abbrev S16384x3072 : Shape := ⟨2, ![16384, 3072]⟩
abbrev S8x2048x3072 : Shape := ⟨3, ![8, 2048, 3072]⟩
abbrev S8x3x3072 : Shape := ⟨3, ![8, 3, 3072]⟩

abbrev nBuf : Space → Nat
  | .hbm => 75
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x11288, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x8, .f32⟩
  | .hbm, ⟨7, _⟩ => ⟨S1x8, .f32⟩
  | .hbm, ⟨8, _⟩ => ⟨S2048, .f32⟩
  | .hbm, ⟨9, _⟩ => ⟨S2048x11288, .f32⟩
  | .hbm, ⟨10, _⟩ => ⟨S8, .f32⟩
  | .hbm, ⟨11, _⟩ => ⟨S128, .f32⟩
  | .hbm, ⟨12, _⟩ => ⟨S128, .f32⟩
  | .hbm, ⟨13, _⟩ => ⟨S8, .f32⟩
  | .hbm, ⟨14, _⟩ => ⟨S8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x24, .f32⟩
  | .hbm, ⟨19, _⟩ => ⟨S_, .i32⟩
  | .hbm, ⟨20, _⟩ => ⟨S_, .f32⟩
  | .hbm, ⟨21, _⟩ => ⟨S2048x512, .f32⟩
  | .hbm, ⟨22, _⟩ => ⟨S2048x3072, .f32⟩
  | .hbm, ⟨23, _⟩ => ⟨S2048x3072, .f32⟩
  | .hbm, ⟨24, _⟩ => ⟨S2048x5120, .f32⟩
  | .hbm, ⟨25, _⟩ => ⟨S2048x11776, .f32⟩
  | .hbm, ⟨26, _⟩ => ⟨S2048x11776, .bf16⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S1x128, .f32⟩
  | .hbm, ⟨31, _⟩ => ⟨S8x128, .f32⟩
  | .hbm, ⟨32, _⟩ => ⟨S1024, .f32⟩
  | .hbm, ⟨33, _⟩ => ⟨S_, .f32⟩
  | .hbm, ⟨34, _⟩ => ⟨S9728, .f32⟩
  | .hbm, ⟨35, _⟩ => ⟨S11776, .f32⟩
  | .hbm, ⟨36, _⟩ => ⟨S1x11776, .f32⟩
  | .hbm, ⟨37, _⟩ => ⟨S_, .f32⟩
  | .hbm, ⟨38, _⟩ => ⟨S112, .f32⟩
  | .hbm, ⟨39, _⟩ => ⟨S128, .f32⟩
  | .hbm, ⟨40, _⟩ => ⟨S_, .f32⟩
  | .hbm, ⟨41, _⟩ => ⟨S8, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S2x128, .f32⟩
  | .hbm, ⟨46, _⟩ => ⟨S_, .i32⟩
  | .hbm, ⟨47, _⟩ => ⟨S_, .f32⟩
  | .hbm, ⟨48, _⟩ => ⟨S8x128, .f32⟩
  | .hbm, ⟨49, _⟩ => ⟨S1x2048, .f32⟩
  | .hbm, ⟨50, _⟩ => ⟨S16384x2048, .f32⟩
  | .hbm, ⟨51, _⟩ => ⟨S16384x11776, .f32⟩
  | .hbm, ⟨52, _⟩ => ⟨S16384x1024, .f32⟩
  | .hbm, ⟨53, _⟩ => ⟨S8x2048x8x128, .f32⟩
  | .hbm, ⟨54, _⟩ => ⟨S16384x1024, .f32⟩
  | .hbm, ⟨55, _⟩ => ⟨S8x2048x8x128, .f32⟩
  | .hbm, ⟨56, _⟩ => ⟨S16384x8, .f32⟩
  | .hbm, ⟨57, _⟩ => ⟨S8x2048x8, .f32⟩
  | .hbm, ⟨58, _⟩ => ⟨S16384x3072, .f32⟩
  | .hbm, ⟨59, _⟩ => ⟨S8x2048x3072, .f32⟩
  | .hbm, ⟨60, _⟩ => ⟨S8x3x3072, .f32⟩
  | .hbm, ⟨61, _⟩ => ⟨S16384x1024, .f32⟩
  | .hbm, ⟨62, _⟩ => ⟨S8x2048x8x128, .f32⟩
  | .hbm, ⟨63, _⟩ => ⟨S16384x3072, .f32⟩
  | .hbm, ⟨64, _⟩ => ⟨S8x2048x3072, .f32⟩
  | .hbm, ⟨65, _⟩ => ⟨S16384x1024, .f32⟩
  | .hbm, ⟨66, _⟩ => ⟨S8x2048x8x128, .f32⟩
  | .hbm, ⟨67, _⟩ => ⟨S16384x2048, .f32⟩
  | .hbm, ⟨68, _⟩ => ⟨S8x2048x2048, .f32⟩
  | .hbm, ⟨69, _⟩ => ⟨S16384x2048, .f32⟩
  | .hbm, ⟨70, _⟩ => ⟨S8x2048x2048, .f32⟩
  | .hbm, ⟨71, _⟩ => ⟨S16384x8, .f32⟩
  | .hbm, ⟨72, _⟩ => ⟨S8x2048x8, .f32⟩
  | .hbm, ⟨73, _⟩ => ⟨S16384x8, .f32⟩
  | .hbm, ⟨74, _⟩ => ⟨S8x2048x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S8x128, .f32⟩
  | .local _ .vmem, ⟨8, _⟩ => ⟨S512x512, .f32⟩
  | .local _ .vmem, ⟨9, _⟩ => ⟨S512x512, .f32⟩
  | .local _ .vmem, ⟨10, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_call1_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 23], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let c14_i32 : BitVec 32 := 14#32
  let v11 : BitVec 1 := Scalar.cmpi .slt arg1 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c14_i32_7 : BitVec 32 := 14#32
  let v15 : BitVec 1 := Scalar.cmpi .sge arg1 c14_i32_7
  let c22_i32 : BitVec 32 := 22#32
  let v16 : BitVec 1 := Scalar.cmpi .slt arg1 c22_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond5 (i : grid0.Coords) : BitVec 1 :=
  let arg1 : BitVec 32 := BitVec.ofNat 32 (i 1).val
  let c22_i32_9 : BitVec 32 := 22#32
  let v20 : BitVec 1 := Scalar.cmpi .eq arg1 c22_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S8x2048x2048 : Shape := ⟨3, ![8, 2048, 2048]⟩
abbrev S1x2048 : Shape := ⟨2, ![1, 2048]⟩
abbrev S1x2048x11288 : Shape := ⟨3, ![1, 2048, 11288]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x11288 : Shape := ⟨2, ![2048, 11288]⟩
abbrev S8x2048x11288 : Shape := ⟨3, ![8, 2048, 11288]⟩
abbrev S8 : Shape := ⟨1, ![8]⟩
abbrev S128 : Shape := ⟨1, ![128]⟩
abbrev S8x2048x1024 : Shape := ⟨3, ![8, 2048, 1024]⟩
abbrev S8x2048x8x128 : Shape := ⟨4, ![8, 2048, 8, 128]⟩
abbrev S8x2048x8 : Shape := ⟨3, ![8, 2048, 8]⟩
abbrev S1x1x8 : Shape := ⟨3, ![1, 1, 8]⟩
abbrev S8x2048x8x1 : Shape := ⟨4, ![8, 2048, 8, 1]⟩
abbrev S1x1x1x128 : Shape := ⟨4, ![1, 1, 1, 128]⟩
abbrev S8x2048x3072 : Shape := ⟨3, ![8, 2048, 3072]⟩
abbrev S8x3x3072 : Shape := ⟨3, ![8, 3, 3072]⟩
abbrev S8x2051x3072 : Shape := ⟨3, ![8, 2051, 3072]⟩

abbrev nBuf : Space → Nat
  | .hbm => 147
  | .vmem => 0
  | .smem => 0
  | _ => 0

abbrev hbmTy0_0 (i : Nat) : BufTy := match i % 128 with
  | 0 => ⟨S8x2048x2048, .f32⟩
  | 1 => ⟨S1x2048, .f32⟩
  | 2 => ⟨S1x2048x11288, .f32⟩
  | 3 => ⟨S1x8, .f32⟩
  | 4 => ⟨S1x128, .f32⟩
  | 5 => ⟨S1x128, .f32⟩
  | 6 => ⟨S1x8, .f32⟩
  | 7 => ⟨S1x8, .f32⟩
  | 8 => ⟨S2048, .f32⟩
  | 9 => ⟨S8x2048x2048, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x2048, .f32⟩
  | 21 => ⟨S8x2048x2048, .f32⟩
  | 22 => ⟨S1x1x2048, .f32⟩
  | 23 => ⟨S8x2048x2048, .f32⟩
  | 24 => ⟨S8x2048x2048, .f32⟩
  | 25 => ⟨S2048x11288, .f32⟩
  | 26 => ⟨S8x2048x11288, .f32⟩
  | 27 => ⟨S8, .f32⟩
  | 28 => ⟨S128, .f32⟩
  | 29 => ⟨S128, .f32⟩
  | 30 => ⟨S8x2048x1024, .f32⟩
  | 31 => ⟨S8x2048x8x128, .f32⟩
  | 32 => ⟨S8x2048x1024, .f32⟩
  | 33 => ⟨S8x2048x8x128, .f32⟩
  | 34 => ⟨S8x2048x1024, .f32⟩
  | 35 => ⟨S8x2048x8x128, .f32⟩
  | 36 => ⟨S8x2048x8, .f32⟩
  | 37 => ⟨S1x1x8, .f32⟩
  | 38 => ⟨S8x2048x8, .f32⟩
  | 39 => ⟨S8x2048x8, .f32⟩
  | 40 => ⟨S8x2048x8, .f32⟩
  | 41 => ⟨S_, .f32⟩
  | 42 => ⟨S8x2048x8, .f32⟩
  | 43 => ⟨S8x2048x8, .f32⟩
  | 44 => ⟨S8x2048x8, .f32⟩
  | 45 => ⟨S8x2048x8, .f32⟩
  | 46 => ⟨S8x2048x8, .i1⟩
  | 47 => ⟨S8x2048x8, .f32⟩
  | 48 => ⟨S8x2048x8, .f32⟩
  | 49 => ⟨S8x2048x8, .f32⟩
  | 50 => ⟨S8x2048x8, .f32⟩
  | 51 => ⟨S8x2048x8, .f32⟩
  | 52 => ⟨S8x2048x8, .f32⟩
  | 53 => ⟨S8x2048x8, .f32⟩
  | 54 => ⟨S8x2048x8, .f32⟩
  | 55 => ⟨S8x2048x8, .f32⟩
  | 56 => ⟨S8x2048x8x128, .f32⟩
  | 57 => ⟨S_, .f32⟩
  | 58 => ⟨S8x2048x8, .f32⟩
  | 59 => ⟨S8x2048x8x1, .f32⟩
  | 60 => ⟨S_, .f32⟩
  | 61 => ⟨S8x2048x8x1, .f32⟩
  | 62 => ⟨S8x2048x8x1, .f32⟩
  | 63 => ⟨S_, .f32⟩
  | 64 => ⟨S8x2048x8x1, .f32⟩
  | 65 => ⟨S8x2048x8x1, .f32⟩
  | 66 => ⟨S8x2048x8x1, .f32⟩
  | 67 => ⟨S8x2048x8x128, .f32⟩
  | 68 => ⟨S8x2048x8x128, .f32⟩
  | 69 => ⟨S1x1x1x128, .f32⟩
  | 70 => ⟨S8x2048x8x128, .f32⟩
  | 71 => ⟨S8x2048x8x128, .f32⟩
  | 72 => ⟨S8x2048x8x128, .f32⟩
  | 73 => ⟨S_, .f32⟩
  | 74 => ⟨S8x2048x8, .f32⟩
  | 75 => ⟨S8x2048x8x1, .f32⟩
  | 76 => ⟨S_, .f32⟩
  | 77 => ⟨S8x2048x8x1, .f32⟩
  | 78 => ⟨S8x2048x8x1, .f32⟩
  | 79 => ⟨S_, .f32⟩
  | 80 => ⟨S8x2048x8x1, .f32⟩
  | 81 => ⟨S8x2048x8x1, .f32⟩
  | 82 => ⟨S8x2048x8x1, .f32⟩
  | 83 => ⟨S8x2048x8x128, .f32⟩
  | 84 => ⟨S8x2048x8x128, .f32⟩
  | 85 => ⟨S1x1x1x128, .f32⟩
  | 86 => ⟨S8x2048x8x128, .f32⟩
  | 87 => ⟨S8x2048x8x128, .f32⟩
  | 88 => ⟨S8x2048x3072, .f32⟩
  | 89 => ⟨S_, .f32⟩
  | 90 => ⟨S8x3x3072, .f32⟩
  | 91 => ⟨S8x2051x3072, .f32⟩
  | 92 => ⟨S8x3x3072, .f32⟩
  | 93 => ⟨S8x2048x8, .f32⟩
  | 94 => ⟨S8x2048x8, .f32⟩
  | 95 => ⟨S8, .f32⟩
  | 96 => ⟨S8, .f32⟩
  | 97 => ⟨S8, .f32⟩
  | 98 => ⟨S8, .f32⟩
  | 99 => ⟨S1x1x8, .f32⟩
  | 100 => ⟨S8x2048x8, .f32⟩
  | 101 => ⟨S8x2048x8, .f32⟩
  | 102 => ⟨S_, .f32⟩
  | 103 => ⟨S8x2048x8, .f32⟩
  | 104 => ⟨S8x2048x8, .f32⟩
  | 105 => ⟨S8x2048x8, .f32⟩
  | 106 => ⟨S8x2048x8, .f32⟩
  | 107 => ⟨S8x2048x8, .i1⟩
  | 108 => ⟨S8x2048x8, .f32⟩
  | 109 => ⟨S8x2048x8, .f32⟩
  | 110 => ⟨S8x2048x8, .f32⟩
  | 111 => ⟨S8x2048x8, .f32⟩
  | 112 => ⟨S8x2048x8, .f32⟩
  | 113 => ⟨S8x2048x8, .f32⟩
  | 114 => ⟨S8x2048x8, .f32⟩
  | 115 => ⟨S8x2048x8, .f32⟩
  | 116 => ⟨S1x1x8, .f32⟩
  | 117 => ⟨S8x2048x8, .f32⟩
  | 118 => ⟨S8x2048x8, .f32⟩
  | 119 => ⟨S8x2048x8, .f32⟩
  | 120 => ⟨S8x2048x8, .f32⟩
  | 121 => ⟨S_, .f32⟩
  | 122 => ⟨S8x2048x8, .f32⟩
  | 123 => ⟨S8x2048x8, .f32⟩
  | 124 => ⟨S_, .f32⟩
  | 125 => ⟨S8x2048x8, .f32⟩
  | 126 => ⟨S8x2048x8, .f32⟩
  | 127 => ⟨S8x2048x1024, .f32⟩
  | _ => ⟨S8x2048x2048, .f32⟩

abbrev hbmTy0_1 (i : Nat) : BufTy := match i % 128 with
  | 0 => ⟨S8x2048x8x128, .f32⟩
  | 1 => ⟨S8x2048x2048, .f32⟩
  | 2 => ⟨S8x2048x2048, .f32⟩
  | 3 => ⟨S8x2048x2048, .f32⟩
  | 4 => ⟨S_, .f32⟩
  | 5 => ⟨S8x2048x2048, .f32⟩
  | 6 => ⟨S8x2048x2048, .f32⟩
  | 7 => ⟨S_, .f32⟩
  | 8 => ⟨S8x2048x2048, .f32⟩
  | 9 => ⟨S8x2048x2048, .f32⟩
  | 10 => ⟨S8x2048x2048, .f32⟩
  | 11 => ⟨S8x2048x2048, .f32⟩
  | 12 => ⟨S8x2048x2048, .f32⟩
  | 13 => ⟨S_, .f32⟩
  | 14 => ⟨S8x2048x2048, .f32⟩
  | 15 => ⟨S8x2048x2048, .f32⟩
  | 16 => ⟨S_, .f32⟩
  | 17 => ⟨S8x2048x2048, .f32⟩
  | 18 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_9 : Ref sig .tc := ⟨.hbm, 121, rfl⟩
abbrev main_v75 : Ref sig .tc := ⟨.hbm, 122, rfl⟩
abbrev main_v76 : Ref sig .tc := ⟨.hbm, 123, rfl⟩
abbrev main_cst_10 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_11 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_13 : Ref sig .tc := ⟨.hbm, 141, rfl⟩
abbrev main_v91 : Ref sig .tc := ⟨.hbm, 142, rfl⟩
abbrev main_v92 : Ref sig .tc := ⟨.hbm, 143, rfl⟩
abbrev main_cst_14 : Ref sig .tc := ⟨.hbm, 144, rfl⟩
abbrev main_v93 : Ref sig .tc := ⟨.hbm, 145, rfl⟩
abbrev main_v94 : Ref sig .tc := ⟨.hbm, 146, rfl⟩

abbrev nD : Nat := 1
abbrev τ : Topo := Topo.v7x

variable {F : FTy → Type} [FloatOps F]
-- ==== ProjSample.lean ====
abbrev S32x1x2048 : Shape := ⟨3, ![32, 1, 2048]⟩
abbrev S1x2048 : Shape := ⟨2, ![1, 2048]⟩
abbrev S1x2048x11288 : Shape := ⟨3, ![1, 2048, 11288]⟩
abbrev S1x8 : Shape := ⟨2, ![1, 8]⟩
abbrev S1x128 : Shape := ⟨2, ![1, 128]⟩
abbrev S2048 : Shape := ⟨1, ![2048]⟩
abbrev S2048x11288 : Shape := ⟨2, ![2048, 11288]⟩
abbrev S8 : Shape := ⟨1, ![8]⟩
abbrev S128 : Shape := ⟨1, ![128]⟩
abbrev S2048x8 : Shape := ⟨2, ![2048, 8]⟩
abbrev S2048x24 : Shape := ⟨2, ![2048, 24]⟩
abbrev S_ : Shape := ⟨0, ![]⟩
abbrev S2048x512 : Shape := ⟨2, ![2048, 512]⟩
abbrev S2048x3072 : Shape := ⟨2, ![2048, 3072]⟩
abbrev S2048x5120 : Shape := ⟨2, ![2048, 5120]⟩
abbrev S2048x11776 : Shape := ⟨2, ![2048, 11776]⟩
abbrev S8x128 : Shape := ⟨2, ![8, 128]⟩
abbrev S1024 : Shape := ⟨1, ![1024]⟩
abbrev S9728 : Shape := ⟨1, ![9728]⟩
abbrev S11776 : Shape := ⟨1, ![11776]⟩
abbrev S1x11776 : Shape := ⟨2, ![1, 11776]⟩
abbrev S112 : Shape := ⟨1, ![112]⟩
abbrev S2x128 : Shape := ⟨2, ![2, 128]⟩
abbrev S32x2048 : Shape := ⟨2, ![32, 2048]⟩
abbrev S32x11776 : Shape := ⟨2, ![32, 11776]⟩
abbrev S1x512 : Shape := ⟨2, ![1, 512]⟩
abbrev S32x512 : Shape := ⟨2, ![32, 512]⟩
abbrev S32 : Shape := ⟨1, ![32]⟩
abbrev S32x1 : Shape := ⟨2, ![32, 1]⟩
abbrev S32x128 : Shape := ⟨2, ![32, 128]⟩
abbrev S32x384 : Shape := ⟨2, ![32, 384]⟩
abbrev S32x1024 : Shape := ⟨2, ![32, 1024]⟩
abbrev S32x8x128 : Shape := ⟨3, ![32, 8, 128]⟩
abbrev S32x8 : Shape := ⟨2, ![32, 8]⟩
abbrev S32x1x8x128 : Shape := ⟨4, ![32, 1, 8, 128]⟩
abbrev S32x3072 : Shape := ⟨2, ![32, 3072]⟩
abbrev S32x1x3072 : Shape := ⟨3, ![32, 1, 3072]⟩
abbrev S32x1x8 : Shape := ⟨3, ![32, 1, 8]⟩

abbrev nBuf : Space → Nat
  | .hbm => 75
  | .vmem => 10
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x11288, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x8, .f32⟩
  | .hbm, ⟨7, _⟩ => ⟨S1x8, .f32⟩
  | .hbm, ⟨8, _⟩ => ⟨S2048, .f32⟩
  | .hbm, ⟨9, _⟩ => ⟨S2048x11288, .f32⟩
  | .hbm, ⟨10, _⟩ => ⟨S8, .f32⟩
  | .hbm, ⟨11, _⟩ => ⟨S128, .f32⟩
  | .hbm, ⟨12, _⟩ => ⟨S128, .f32⟩
  | .hbm, ⟨13, _⟩ => ⟨S8, .f32⟩
  | .hbm, ⟨14, _⟩ => ⟨S8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x24, .f32⟩
  | .hbm, ⟨19, _⟩ => ⟨S_, .i32⟩
  | .hbm, ⟨20, _⟩ => ⟨S_, .f32⟩
  | .hbm, ⟨21, _⟩ => ⟨S2048x512, .f32⟩
  | .hbm, ⟨22, _⟩ => ⟨S2048x3072, .f32⟩
  | .hbm, ⟨23, _⟩ => ⟨S2048x3072, .f32⟩
  | .hbm, ⟨24, _⟩ => ⟨S2048x5120, .f32⟩
  | .hbm, ⟨25, _⟩ => ⟨S2048x11776, .f32⟩
  | .hbm, ⟨26, _⟩ => ⟨S2048x11776, .bf16⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S1x128, .f32⟩
  | .hbm, ⟨31, _⟩ => ⟨S8x128, .f32⟩
  | .hbm, ⟨32, _⟩ => ⟨S1024, .f32⟩
  | .hbm, ⟨33, _⟩ => ⟨S_, .f32⟩
  | .hbm, ⟨34, _⟩ => ⟨S9728, .f32⟩
  | .hbm, ⟨35, _⟩ => ⟨S11776, .f32⟩
  | .hbm, ⟨36, _⟩ => ⟨S1x11776, .f32⟩
  | .hbm, ⟨37, _⟩ => ⟨S_, .f32⟩
  | .hbm, ⟨38, _⟩ => ⟨S112, .f32⟩
  | .hbm, ⟨39, _⟩ => ⟨S128, .f32⟩
  | .hbm, ⟨40, _⟩ => ⟨S_, .f32⟩
  | .hbm, ⟨41, _⟩ => ⟨S8, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S2x128, .f32⟩
  | .hbm, ⟨46, _⟩ => ⟨S_, .i32⟩
  | .hbm, ⟨47, _⟩ => ⟨S_, .f32⟩
  | .hbm, ⟨48, _⟩ => ⟨S8x128, .f32⟩
  | .hbm, ⟨49, _⟩ => ⟨S1x2048, .f32⟩
  | .hbm, ⟨50, _⟩ => ⟨S32x2048, .f32⟩
  | .hbm, ⟨51, _⟩ => ⟨S32x11776, .f32⟩
  | .hbm, ⟨52, _⟩ => ⟨S32x1024, .f32⟩
  | .hbm, ⟨53, _⟩ => ⟨S32x8x128, .f32⟩
  | .hbm, ⟨54, _⟩ => ⟨S32x1024, .f32⟩
  | .hbm, ⟨55, _⟩ => ⟨S32x8x128, .f32⟩
  | .hbm, ⟨56, _⟩ => ⟨S32x128, .f32⟩
  | .hbm, ⟨57, _⟩ => ⟨S32x8, .f32⟩
  | .hbm, ⟨58, _⟩ => ⟨S32x1024, .f32⟩
  | .hbm, ⟨59, _⟩ => ⟨S32x1x8x128, .f32⟩
  | .hbm, ⟨60, _⟩ => ⟨S32x3072, .f32⟩
  | .hbm, ⟨61, _⟩ => ⟨S32x1x3072, .f32⟩
  | .hbm, ⟨62, _⟩ => ⟨S32x1024, .f32⟩
  | .hbm, ⟨63, _⟩ => ⟨S32x1x8x128, .f32⟩
  | .hbm, ⟨64, _⟩ => ⟨S32x2048, .f32⟩
  | .hbm, ⟨65, _⟩ => ⟨S32x1x2048, .f32⟩
  | .hbm, ⟨66, _⟩ => ⟨S32x2048, .f32⟩
  | .hbm, ⟨67, _⟩ => ⟨S32x1x2048, .f32⟩
  | .hbm, ⟨68, _⟩ => ⟨S32x8, .f32⟩
  | .hbm, ⟨69, _⟩ => ⟨S32x1x8, .f32⟩
  | .hbm, ⟨70, _⟩ => ⟨S32x8, .f32⟩
  | .hbm, ⟨71, _⟩ => ⟨S32x1x8, .f32⟩
  | .hbm, ⟨72, _⟩ => ⟨S32x1x8x128, .f32⟩
  | .hbm, ⟨73, _⟩ => ⟨S32x1x8x128, .f32⟩
  | .hbm, ⟨74, _⟩ => ⟨S32x1x8, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S8x128, .f32⟩
  | .local _ .vmem, ⟨7, _⟩ => ⟨S32x512, .f32⟩
  | .local _ .vmem, ⟨8, _⟩ => ⟨S32x512, .f32⟩
  | .local _ .vmem, ⟨9, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_call1_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 23], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let c14_i32 : BitVec 32 := 14#32
  let v11 : BitVec 1 := Scalar.cmpi .slt arg1 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c14_i32_7 : BitVec 32 := 14#32
  let v15 : BitVec 1 := Scalar.cmpi .sge arg1 c14_i32_7
  let c22_i32 : BitVec 32 := 22#32
  let v16 : BitVec 1 := Scalar.cmpi .slt arg1 c22_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond5 (i : grid0.Coords) : BitVec 1 :=
  let arg1 : BitVec 32 := BitVec.ofNat 32 (i 1).val
  let c22_i32_9 : BitVec 32 := 22#32
  let v20 : BitVec 1 := Scalar.cmpi .eq arg1 c22_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjSampleRefIdeal.lean ====
abbrev S32x1x2048 : Shape := ⟨3, ![32, 1, 2048]⟩
abbrev S1x2048 : Shape := ⟨2, ![1, 2048]⟩
abbrev S1x2048x11288 : Shape := ⟨3, ![1, 2048, 11288]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x11288 : Shape := ⟨2, ![2048, 11288]⟩
abbrev S32x1x11288 : Shape := ⟨3, ![32, 1, 11288]⟩
abbrev S8 : Shape := ⟨1, ![8]⟩
abbrev S128 : Shape := ⟨1, ![128]⟩
abbrev S32x1x1024 : Shape := ⟨3, ![32, 1, 1024]⟩
abbrev S32x1x8x128 : Shape := ⟨4, ![32, 1, 8, 128]⟩
abbrev S32x1x8 : Shape := ⟨3, ![32, 1, 8]⟩
abbrev S1x1x8 : Shape := ⟨3, ![1, 1, 8]⟩
abbrev S32x1x8x1 : Shape := ⟨4, ![32, 1, 8, 1]⟩
abbrev S1x1x1x128 : Shape := ⟨4, ![1, 1, 1, 128]⟩
abbrev S32x1x3072 : Shape := ⟨3, ![32, 1, 3072]⟩

abbrev nBuf : Space → Nat
  | .hbm => 143
  | .vmem => 0
  | .smem => 0
  | _ => 0

abbrev hbmTy0_0 (i : Nat) : BufTy := match i % 128 with
  | 0 => ⟨S32x1x2048, .f32⟩
  | 1 => ⟨S1x2048, .f32⟩
  | 2 => ⟨S1x2048x11288, .f32⟩
  | 3 => ⟨S1x8, .f32⟩
  | 4 => ⟨S1x128, .f32⟩
  | 5 => ⟨S1x128, .f32⟩
  | 6 => ⟨S1x8, .f32⟩
  | 7 => ⟨S1x8, .f32⟩
  | 8 => ⟨S2048, .f32⟩
  | 9 => ⟨S32x1x2048, .f32⟩
  | 10 => ⟨S_, .f32⟩
  | 11 => ⟨S32x1, .f32⟩
  | 12 => ⟨S32x1x1, .f32⟩
  | 13 => ⟨S_, .f32⟩
  | 14 => ⟨S32x1x1, .f32⟩
  | 15 => ⟨S32x1x1, .f32⟩
  | 16 => ⟨S_, .f32⟩
  | 17 => ⟨S32x1x1, .f32⟩
  | 18 => ⟨S32x1x1, .f32⟩
  | 19 => ⟨S32x1x1, .f32⟩
  | 20 => ⟨S32x1x2048, .f32⟩
  | 21 => ⟨S32x1x2048, .f32⟩
  | 22 => ⟨S1x1x2048, .f32⟩
  | 23 => ⟨S32x1x2048, .f32⟩
  | 24 => ⟨S32x1x2048, .f32⟩
  | 25 => ⟨S2048x11288, .f32⟩
  | 26 => ⟨S32x1x11288, .f32⟩
  | 27 => ⟨S8, .f32⟩
  | 28 => ⟨S128, .f32⟩
  | 29 => ⟨S128, .f32⟩
  | 30 => ⟨S32x1x1024, .f32⟩
  | 31 => ⟨S32x1x8x128, .f32⟩
  | 32 => ⟨S32x1x1024, .f32⟩
  | 33 => ⟨S32x1x8x128, .f32⟩
  | 34 => ⟨S32x1x1024, .f32⟩
  | 35 => ⟨S32x1x8x128, .f32⟩
  | 36 => ⟨S32x1x8, .f32⟩
  | 37 => ⟨S1x1x8, .f32⟩
  | 38 => ⟨S32x1x8, .f32⟩
  | 39 => ⟨S32x1x8, .f32⟩
  | 40 => ⟨S32x1x8, .f32⟩
  | 41 => ⟨S_, .f32⟩
  | 42 => ⟨S32x1x8, .f32⟩
  | 43 => ⟨S32x1x8, .f32⟩
  | 44 => ⟨S32x1x8, .f32⟩
  | 45 => ⟨S32x1x8, .f32⟩
  | 46 => ⟨S32x1x8, .i1⟩
  | 47 => ⟨S32x1x8, .f32⟩
  | 48 => ⟨S32x1x8, .f32⟩
  | 49 => ⟨S32x1x8, .f32⟩
  | 50 => ⟨S32x1x8, .f32⟩
  | 51 => ⟨S32x1x8, .f32⟩
  | 52 => ⟨S32x1x8, .f32⟩
  | 53 => ⟨S32x1x8, .f32⟩
  | 54 => ⟨S32x1x8, .f32⟩
  | 55 => ⟨S32x1x8, .f32⟩
  | 56 => ⟨S32x1x8x128, .f32⟩
  | 57 => ⟨S_, .f32⟩
  | 58 => ⟨S32x1x8, .f32⟩
  | 59 => ⟨S32x1x8x1, .f32⟩
  | 60 => ⟨S_, .f32⟩
  | 61 => ⟨S32x1x8x1, .f32⟩
  | 62 => ⟨S32x1x8x1, .f32⟩
  | 63 => ⟨S_, .f32⟩
  | 64 => ⟨S32x1x8x1, .f32⟩
  | 65 => ⟨S32x1x8x1, .f32⟩
  | 66 => ⟨S32x1x8x1, .f32⟩
  | 67 => ⟨S32x1x8x128, .f32⟩
  | 68 => ⟨S32x1x8x128, .f32⟩
  | 69 => ⟨S1x1x1x128, .f32⟩
  | 70 => ⟨S32x1x8x128, .f32⟩
  | 71 => ⟨S32x1x8x128, .f32⟩
  | 72 => ⟨S32x1x8x128, .f32⟩
  | 73 => ⟨S_, .f32⟩
  | 74 => ⟨S32x1x8, .f32⟩
  | 75 => ⟨S32x1x8x1, .f32⟩
  | 76 => ⟨S_, .f32⟩
  | 77 => ⟨S32x1x8x1, .f32⟩
  | 78 => ⟨S32x1x8x1, .f32⟩
  | 79 => ⟨S_, .f32⟩
  | 80 => ⟨S32x1x8x1, .f32⟩
  | 81 => ⟨S32x1x8x1, .f32⟩
  | 82 => ⟨S32x1x8x1, .f32⟩
  | 83 => ⟨S32x1x8x128, .f32⟩
  | 84 => ⟨S32x1x8x128, .f32⟩
  | 85 => ⟨S1x1x1x128, .f32⟩
  | 86 => ⟨S32x1x8x128, .f32⟩
  | 87 => ⟨S32x1x8x128, .f32⟩
  | 88 => ⟨S32x1x3072, .f32⟩
  | 89 => ⟨S32x1x8, .f32⟩
  | 90 => ⟨S32x1x8, .f32⟩
  | 91 => ⟨S8, .f32⟩
  | 92 => ⟨S8, .f32⟩
  | 93 => ⟨S8, .f32⟩
  | 94 => ⟨S8, .f32⟩
  | 95 => ⟨S1x1x8, .f32⟩
  | 96 => ⟨S32x1x8, .f32⟩
  | 97 => ⟨S32x1x8, .f32⟩
  | 98 => ⟨S_, .f32⟩
  | 99 => ⟨S32x1x8, .f32⟩
  | 100 => ⟨S32x1x8, .f32⟩
  | 101 => ⟨S32x1x8, .f32⟩
  | 102 => ⟨S32x1x8, .f32⟩
  | 103 => ⟨S32x1x8, .i1⟩
  | 104 => ⟨S32x1x8, .f32⟩
  | 105 => ⟨S32x1x8, .f32⟩
  | 106 => ⟨S32x1x8, .f32⟩
  | 107 => ⟨S32x1x8, .f32⟩
  | 108 => ⟨S32x1x8, .f32⟩
  | 109 => ⟨S32x1x8, .f32⟩
  | 110 => ⟨S32x1x8, .f32⟩
  | 111 => ⟨S32x1x8, .f32⟩
  | 112 => ⟨S1x1x8, .f32⟩
  | 113 => ⟨S32x1x8, .f32⟩
  | 114 => ⟨S32x1x8, .f32⟩
  | 115 => ⟨S32x1x8, .f32⟩
  | 116 => ⟨S32x1x8, .f32⟩
  | 117 => ⟨S_, .f32⟩
  | 118 => ⟨S32x1x8, .f32⟩
  | 119 => ⟨S32x1x8, .f32⟩
  | 120 => ⟨S_, .f32⟩
  | 121 => ⟨S32x1x8, .f32⟩
  | 122 => ⟨S32x1x8, .f32⟩
  | 123 => ⟨S32x1x1024, .f32⟩
  | 124 => ⟨S32x1x8x128, .f32⟩
  | 125 => ⟨S32x1x2048, .f32⟩
  | 126 => ⟨S32x1x2048, .f32⟩
  | 127 => ⟨S32x1x2048, .f32⟩
  | _ => ⟨S32x1x2048, .f32⟩

abbrev hbmTy0_1 (i : Nat) : BufTy := match i % 128 with
  | 0 => ⟨S_, .f32⟩
  | 1 => ⟨S32x1x2048, .f32⟩
  | 2 => ⟨S32x1x2048, .f32⟩
  | 3 => ⟨S_, .f32⟩
  | 4 => ⟨S32x1x2048, .f32⟩
  | 5 => ⟨S32x1x2048, .f32⟩
  | 6 => ⟨S32x1x2048, .f32⟩
  | 7 => ⟨S32x1x2048, .f32⟩
  | 8 => ⟨S32x1x2048, .f32⟩
  | 9 => ⟨S_, .f32⟩
  | 10 => ⟨S32x1x2048, .f32⟩
  | 11 => ⟨S32x1x2048, .f32⟩
  | 12 => ⟨S_, .f32⟩
  | 13 => ⟨S32x1x2048, .f32⟩
  | 14 => ⟨S32x1x2048, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_8 : Ref sig .tc := ⟨.hbm, 117, rfl⟩
abbrev main_v72 : Ref sig .tc := ⟨.hbm, 118, rfl⟩
abbrev main_v73 : Ref sig .tc := ⟨.hbm, 119, rfl⟩
abbrev main_cst_9 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_10 : Ref sig .tc := ⟨.hbm, 128, rfl⟩
abbrev main_v81 : Ref sig .tc := ⟨.hbm, 129, rfl⟩
abbrev main_v82 : Ref sig .tc := ⟨.hbm, 130, rfl⟩
abbrev main_cst_11 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_12 : Ref sig .tc := ⟨.hbm, 137, rfl⟩
abbrev main_v88 : Ref sig .tc := ⟨.hbm, 138, rfl⟩
abbrev main_v89 : Ref sig .tc := ⟨.hbm, 139, rfl⟩
abbrev main_cst_13 : Ref sig .tc := ⟨.hbm, 140, rfl⟩
abbrev main_v90 : Ref sig .tc := ⟨.hbm, 141, rfl⟩
abbrev main_v91 : Ref sig .tc := ⟨.hbm, 142, rfl⟩

abbrev nD : Nat := 1
abbrev τ : Topo := Topo.v7x

variable {F : FTy → Type} [FloatOps F]
-- ==== Merge.lean ====
abbrev S8x2048x2048 : Shape := ⟨3, ![8, 2048, 2048]⟩
abbrev S16384x1024 : Shape := ⟨2, ![16384, 1024]⟩
abbrev S16384x11776 : Shape := ⟨2, ![16384, 11776]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S16384x2048 : Shape := ⟨2, ![16384, 2048]⟩
abbrev S512x1024 : Shape := ⟨2, ![512, 1024]⟩
abbrev S1024x512 : Shape := ⟨2, ![1024, 512]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 16
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S16384x11776, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S16384x2048, .f32⟩
  | .hbm, ⟨14, _⟩ => ⟨S16384x2048, .bf16⟩
  | .hbm, ⟨15, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MergeRefIdeal.lean ====
abbrev S8x2048x2048 : Shape := ⟨3, ![8, 2048, 2048]⟩
abbrev S16384x1024 : Shape := ⟨2, ![16384, 1024]⟩
abbrev S16384x11776 : Shape := ⟨2, ![16384, 11776]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S1024x2048 : Shape := ⟨2, ![1024, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .bf16⟩
  | .hbm, ⟨2, _⟩ => ⟨S16384x1024, .bf16⟩
  | .hbm, ⟨3, _⟩ => ⟨S16384x11776, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x1024, .f32⟩
  | .hbm, ⟨11, _⟩ => ⟨S1024x2048, .f32⟩
  | .hbm, ⟨12, _⟩ => ⟨S16384x2048, .f32⟩
  | .hbm, ⟨13, _⟩ => ⟨S16384x2048, .f32⟩
  | .hbm, ⟨14, _⟩ => ⟨S16384x1024, .f32⟩
  | .hbm, ⟨15, _⟩ => ⟨S1024x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2048x2048, .f32⟩
  | .hbm, ⟨20, _⟩ => ⟨S16384x2048, .f32⟩
  | .hbm, ⟨21, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Ple.lean ====
abbrev S16384x2048 : Shape := ⟨2, ![16384, 2048]⟩
abbrev S1x8x2048x256 : Shape := ⟨4, ![1, 8, 2048, 256]⟩
abbrev S1x2048 : Shape := ⟨2, ![1, 2048]⟩
abbrev S1x256x2048 : Shape := ⟨3, ![1, 256, 2048]⟩
abbrev S1x2048x2048 : Shape := ⟨3, ![1, 2048, 2048]⟩
abbrev S8x2048x256 : Shape := ⟨3, ![8, 2048, 256]⟩
abbrev S16384x256 : Shape := ⟨2, ![16384, 256]⟩
abbrev S2048 : Shape := ⟨1, ![2048]⟩
abbrev S256x2048 : Shape := ⟨2, ![256, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩
abbrev S512x256 : Shape := ⟨2, ![512, 256]⟩
abbrev S256x512 : Shape := ⟨2, ![256, 512]⟩
abbrev S512 : Shape := ⟨1, ![512]⟩
abbrev S512x1 : Shape := ⟨2, ![512, 1]⟩
abbrev S8x2048x2048 : Shape := ⟨3, ![8, 2048, 2048]⟩

abbrev nBuf : Space → Nat
  | .hbm => 16
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S8x2048x256, .f32⟩
  | .hbm, ⟨6, _⟩ => ⟨S16384x256, .f32⟩
  | .hbm, ⟨7, _⟩ => ⟨S2048, .f32⟩
  | .hbm, ⟨8, _⟩ => ⟨S1x2048, .f32⟩
  | .hbm, ⟨9, _⟩ => ⟨S256x2048, .f32⟩
  | .hbm, ⟨10, _⟩ => ⟨S256x2048, .bf16⟩
  | .hbm, ⟨11, _⟩ => ⟨S2048x2048, .f32⟩
  | .hbm, ⟨12, _⟩ => ⟨S2048x2048, .bf16⟩
  | .hbm, ⟨13, _⟩ => ⟨S16384x256, .bf16⟩
  | .hbm, ⟨14, _⟩ => ⟨S16384x2048, .f32⟩
  | .hbm, ⟨15, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x256, .bf16⟩
  | .local _ .vmem, ⟨8, _⟩ => ⟨S512x256, .bf16⟩
  | .local _ .vmem, ⟨9, _⟩ => ⟨S256x512, .bf16⟩
  | .local _ .vmem, ⟨10, _⟩ => ⟨S256x512, .bf16⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S16384x2048 : Shape := ⟨2, ![16384, 2048]⟩
abbrev S1x8x2048x256 : Shape := ⟨4, ![1, 8, 2048, 256]⟩
abbrev S1x2048 : Shape := ⟨2, ![1, 2048]⟩
abbrev S1x256x2048 : Shape := ⟨3, ![1, 256, 2048]⟩
abbrev S1x2048x2048 : Shape := ⟨3, ![1, 2048, 2048]⟩
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x2048x256 : Shape := ⟨3, ![8, 2048, 256]⟩
abbrev S256x2048 : Shape := ⟨2, ![256, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x8x2048x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S8x2048x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x256, .f32⟩
  | .hbm, ⟨34, _⟩ => ⟨S256x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== PleSample.lean ====
abbrev S32x2048 : Shape := ⟨2, ![32, 2048]⟩
abbrev S1x32x1x256 : Shape := ⟨4, ![1, 32, 1, 256]⟩
abbrev S1x2048 : Shape := ⟨2, ![1, 2048]⟩
abbrev S1x256x2048 : Shape := ⟨3, ![1, 256, 2048]⟩
abbrev S1x2048x2048 : Shape := ⟨3, ![1, 2048, 2048]⟩
abbrev S32x1x256 : Shape := ⟨3, ![32, 1, 256]⟩
abbrev S32x256 : Shape := ⟨2, ![32, 256]⟩
abbrev S2048 : Shape := ⟨1, ![2048]⟩
abbrev S256x2048 : Shape := ⟨2, ![256, 2048]⟩
abbrev S2048x2048 : Shape := ⟨2, ![2048, 2048]⟩
abbrev S2048x512 : Shape := ⟨2, ![2048, 512]⟩
abbrev S32x512 : Shape := ⟨2, ![32, 512]⟩
abbrev S256x512 : Shape := ⟨2, ![256, 512]⟩
abbrev S32 : Shape := ⟨1, ![32]⟩
abbrev S32x1 : Shape := ⟨2, ![32, 1]⟩
abbrev S32x1x2048 : Shape := ⟨3, ![32, 1, 2048]⟩

abbrev nBuf : Space → Nat
  | .hbm => 16
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S1x32x1x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S32x1x256, .f32⟩
  | .hbm, ⟨6, _⟩ => ⟨S32x256, .f32⟩
  | .hbm, ⟨7, _⟩ => ⟨S2048, .f32⟩
  | .hbm, ⟨8, _⟩ => ⟨S1x2048, .f32⟩
  | .hbm, ⟨9, _⟩ => ⟨S256x2048, .f32⟩
  | .hbm, ⟨10, _⟩ => ⟨S256x2048, .bf16⟩
  | .hbm, ⟨11, _⟩ => ⟨S2048x2048, .f32⟩
  | .hbm, ⟨12, _⟩ => ⟨S2048x2048, .bf16⟩
  | .hbm, ⟨13, _⟩ => ⟨S32x256, .bf16⟩
  | .hbm, ⟨14, _⟩ => ⟨S32x2048, .f32⟩
  | .hbm, ⟨15, _⟩ => ⟨S32x1x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x512, .f32⟩
  | .local _ .vmem, ⟨5, _⟩ => ⟨S32x512, .f32⟩
  | .local _ .vmem, ⟨6, _⟩ => ⟨S32x256, .bf16⟩
  | .local _ .vmem, ⟨7, _⟩ => ⟨S256x512, .bf16⟩
  | .local _ .vmem, ⟨8, _⟩ => ⟨S256x512, .bf16⟩
  | .local _ .vmem, ⟨9, _⟩ => ⟨S32x512, .f32⟩
  | .local _ .vmem, ⟨10, _⟩ => ⟨S32x512, .f32⟩
  | .local _ .vmem, ⟨11, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleSampleRefIdeal.lean ====
abbrev S32x2048 : Shape := ⟨2, ![32, 2048]⟩
abbrev S1x32x1x256 : Shape := ⟨4, ![1, 32, 1, 256]⟩
abbrev S1x2048 : Shape := ⟨2, ![1, 2048]⟩
abbrev S1x256x2048 : Shape := ⟨3, ![1, 256, 2048]⟩
abbrev S1x2048x2048 : Shape := ⟨3, ![1, 2048, 2048]⟩
abbrev S32x1x2048 : Shape := ⟨3, ![32, 1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x2048 : Shape := ⟨2, ![2048, 2048]⟩
abbrev S32x1x256 : Shape := ⟨3, ![32, 1, 256]⟩
abbrev S256x2048 : Shape := ⟨2, ![256, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x32x1x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S32x1x2048, .f32⟩
  | .hbm, ⟨6, _⟩ => ⟨S2048, .f32⟩
  | .hbm, ⟨7, _⟩ => ⟨S32x1x2048, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S1x1x2048, .f32⟩
  | .hbm, ⟨21, _⟩ => ⟨S32x1x2048, .f32⟩
  | .hbm, ⟨22, _⟩ => ⟨S32x1x2048, .f32⟩
  | .hbm, ⟨23, _⟩ => ⟨S2048x2048, .f32⟩
  | .hbm, ⟨24, _⟩ => ⟨S32x1x2048, .f32⟩
  | .hbm, ⟨25, _⟩ => ⟨S32x1x2048, .f32⟩
  | .hbm, ⟨26, _⟩ => ⟨S32x1x2048, .f32⟩
  | .hbm, ⟨27, _⟩ => ⟨S_, .f32⟩
  | .hbm, ⟨28, _⟩ => ⟨S32x1x2048, .f32⟩
  | .hbm, ⟨29, _⟩ => ⟨S32x1x2048, .f32⟩
  | .hbm, ⟨30, _⟩ => ⟨S_, .f32⟩
  | .hbm, ⟨31, _⟩ => ⟨S32x1x2048, .f32⟩
  | .hbm, ⟨32, _⟩ => ⟨S32x1x2048, .f32⟩
  | .hbm, ⟨33, _⟩ => ⟨S32x1x256, .f32⟩
  | .hbm, ⟨34, _⟩ => ⟨S256x2048, .f32⟩
  | .hbm, ⟨35, _⟩ => ⟨S32x1x2048, .f32⟩
  | .hbm, ⟨36, _⟩ => ⟨S32x1x2048, .f32⟩
  | .hbm, ⟨37, _⟩ => ⟨S32x1x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Gdn.Math.lean ====
/- One step of the gated delta rule over the extended reals: what a sequence's new token does to its heads' states, and what
   each head reads out. No program is mentioned here: the kernel's blocks and the reference's arrays are both read into
   these functions. -/
module

public import Idealize.ShloMosaic.Lib.Pointwise

@[expose] public section

noncomputable section

open Idealize.ShloMosaic

namespace Cert.Gdn

/-- The logistic weight times its argument. -/
def silu (u : EReal) : EReal := u * Ideal.div 1 (1 + Ideal.exp (-u))

/-- A row scaled to unit length, the tiny constant added under the root. -/
def unit (y : Fin 128 → EReal) (d : Fin 128) : EReal :=
  y d * Ideal.rsqrt (∑ x, y x * y x + Ideal.ofBits .f32 0x358637BD#32)

/-- Head `h`'s key, from the 24 rows of the convolved channels (8 query rows, 8 key rows, 8 value rows). -/
def key (y : Fin 24 → Fin 128 → EReal) (h : Fin 8) : Fin 128 → EReal := unit (y ⟨8 + h, by omega⟩)

/-- Head `h`'s query, scaled. -/
def query (y : Fin 24 → Fin 128 → EReal) (h : Fin 8) (d : Fin 128) : EReal :=
  unit (y ⟨h, by omega⟩) d * Ideal.ofBits .f32 0x3DB504F3#32

/-- The state of head `h` after the token: the old state decayed, plus the key times the (scaled) error of its prediction. -/
def newState (y : Fin 24 → Fin 128 → EReal) (g β : Fin 8 → EReal) (S : Fin 8 → Fin 128 → Fin 128 → EReal)
    (h : Fin 8) (d e : Fin 128) : EReal :=
  S h d e * Ideal.exp (g h)
    + key y h d * ((y ⟨16 + h, by omega⟩ e - ∑ x, key y h x * (S h x e * Ideal.exp (g h))) * β h)

/-- Head `h`'s read-out of its new state. -/
def readOut (y : Fin 24 → Fin 128 → EReal) (g β : Fin 8 → EReal) (S : Fin 8 → Fin 128 → Fin 128 → EReal)
    (h : Fin 8) (e : Fin 128) : EReal :=
  ∑ x, query y h x * newState y g β S h x e

/-- The read-out normalised by its mean square, times the gain, times the gate. -/
def gated (o gn z : Fin 128 → EReal) (e : Fin 128) : EReal :=
  o e * Ideal.rsqrt (Ideal.div (∑ x, o x * o x) (Ideal.ofBits .f32 0x43000000#32) + Ideal.ofBits .f32 0x358637BD#32) * gn e
    * silu (z e)

/-- The causal convolution of width four at one channel: three carried values and the new one. -/
def conv (c0 c1 c2 x w0 w1 w2 w3 : EReal) : EReal := silu (c0 * w0 + c1 * w1 + c2 * w2 + x * w3)

end Cert.Gdn

end
-- ==== Proof.Gdn.Ref.lean ====
/- The reference of the sample group's gated DeltaNet step, read at an index: its three results are the step of Math.lean over
   the argument arrays. -/
module

public import proofs.«01_k».proof.Proof.Gen.GdnSampleRefIdeal.Read
public import proofs.«01_k».proof.Proof.Gdn.Math

@[expose] public section

set_option maxRecDepth 16384

noncomputable section

open Idealize.ShloMosaic Idealize.ShloMosaic.TcCoe Idealize.SL.Sem

namespace Cert.Gdn.Ref

open Cert.GdnSampleRefIdeal Cert.GdnSampleRefIdeal.Gen Cert.GdnSampleRefIdeal.Read

variable (P : FVec Ideal S32x11776 .f32) (C : FVec Ideal S32x3x3072 .f32) (W : FVec Ideal S4x3072 .f32)
  (G : FVec Ideal S128 .f32) (S : FVec Ideal S32x8x128x128 .f32)

/-- The convolved channels of sequence `b`, as 24 rows of 128. -/
def rows (b : Fin 32) (r : Fin 24) (d : Fin 128) : EReal :=
  conv (C (ix3 b 0 ⟨r * 128 + d, by omega⟩)) (C (ix3 b 1 ⟨r * 128 + d, by omega⟩)) (C (ix3 b 2 ⟨r * 128 + d, by omega⟩))
    (P (ix2 b ⟨3072 + (r * 128 + d), by omega⟩)) (W (ix2 0 ⟨r * 128 + d, by omega⟩)) (W (ix2 1 ⟨r * 128 + d, by omega⟩))
    (W (ix2 2 ⟨r * 128 + d, by omega⟩)) (W (ix2 3 ⟨r * 128 + d, by omega⟩))

theorem v30 (b : Fin 32) (ch : Fin 3072) : val_main_v30 (F := Ideal) P C W (ix3 b 0 ch) =
   conv (C (ix3 b 0 ch)) (C (ix3 b 1 ch)) (C (ix3 b 2 ch)) (P (ix2 b ⟨3072 + ch, by omega⟩)) (W (ix2 0 ch)) (W (ix2 1 ch))
    (W (ix2 2 ch)) (W (ix2 3 ch)) := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]
  rfl

/-- A row of the convolved channels. -/
theorem row (b : Fin 32) (r : Fin 24) (d : Fin 128) (n : Fin 3072) (hn : n.val = r.val * 128 + d.val) :
    val_main_v30 (F := Ideal) P C W (ix3 b 0 n) = rows P C W b r d := by
  have e : n = ⟨r * 128 + d, by omega⟩ := Fin.ext hn
  rw [e]; exact v30 P C W b _

/-- The keys. -/
theorem v61 (b : Fin 32) (h : Fin 8) (d : Fin 128) : val_main_v61 (F := Ideal) P C W (ix3 b h d) = key (rows P C W b) h d := by
  pointwise [val_main_v61, val_main_v53, val_main_v52, val_main_v51, val_main_v50, val_main_v49, val_main_v48, val_main_v47,
    val_main_v46, val_main_v45, val_main_v44, val_main_cst_2, val_main_cst_3]
  have hr (x : Fin 128) := row P C W b ⟨8 + h, by omega⟩ x ⟨1024 + (h * 128 + x), by omega⟩ (by simp only []; omega)
  simp only [hr]
  rfl

/-- The scaled queries. -/
theorem v60 (b : Fin 32) (h : Fin 8) (d : Fin 128) : val_main_v60 (F := Ideal) P C W (ix3 b h d) = query (rows P C W b) h d := by
  pointwise [val_main_v60, val_main_v43, val_main_v42, val_main_v41, val_main_v40, val_main_v39, val_main_v38, val_main_v37,
    val_main_v36, val_main_v35, val_main_v34, val_main_v33, val_main_v32, val_main_cst, val_main_cst_0, val_main_cst_1]
  have hr (x : Fin 128) := row P C W b ⟨h, by omega⟩ x ⟨h * 128 + x, by omega⟩ rfl
  simp only [hr]
  rfl

/-- The values. -/
theorem v62 (b : Fin 32) (h : Fin 8) (d : Fin 128) :
    val_main_v62 (F := Ideal) P C W (ix3 b h d) = rows P C W b ⟨16 + h, by omega⟩ d := by
  pointwise [val_main_v62, val_main_v55, val_main_v54]
  exact row P C W b ⟨16 + h, by omega⟩ d _ (by simp only []; omega)

/-- Log decays, update scales and states of sequence `b`. -/
def decay (b : Fin 32) (h : Fin 8) : EReal := P (ix2 b ⟨11272 + h, by omega⟩)
def scale (b : Fin 32) (h : Fin 8) : EReal := P (ix2 b ⟨11280 + h, by omega⟩)
def old (b : Fin 32) (h : Fin 8) (d e : Fin 128) : EReal := S (ix4 b h d e)

/-- The decayed state. -/
theorem v68 (b : Fin 32) (h : Fin 8) (d e : Fin 128) :
    val_main_v68 (F := Ideal) P S (ix4 b h d e) = old S b h d e * Ideal.exp (decay P b h) := by
  pointwise [val_main_v68, val_main_v67, val_main_v66, val_main_v65, val_main_v63, val_main_v56, val_main_v0]
  rfl

/-- The new states. -/
theorem v79 (b : Fin 32) (h : Fin 8) (d e : Fin 128) :
    val_main_v79 (F := Ideal) P C W S (ix4 b h d e) = newState (rows P C W b) (decay P b) (scale P b) (old S b) h d e := by
  pointwise [val_main_v79, val_main_v78, val_main_v77, val_main_v76, val_main_v75, val_main_v74, val_main_v73, val_main_v72,
    val_main_v71, val_main_v70, val_main_v69, val_main_v64, val_main_v57, val_main_v0]
  simp only [v68, v61, v62]
  rfl

/-- The read-outs. -/
theorem v81 (b : Fin 32) (h : Fin 8) (e : Fin 128) :
    val_main_v81 (F := Ideal) P C W S (ix4 b 0 h e) = readOut (rows P C W b) (decay P b) (scale P b) (old S b) h e := by
  pointwise [val_main_v81, val_main_v80]
  simp only [v60, v79]
  rfl

/-- The gated outputs. -/
theorem v98 (b : Fin 32) (h : Fin 8) (e : Fin 128) :
    val_main_v98 (F := Ideal) P C W G S (ix3 b h e) = gated (readOut (rows P C W b) (decay P b) (scale P b) (old S b) h)
      (fun e => G (ix1 e)) (fun e => P (ix2 b ⟨6144 + (h * 128 + e), by omega⟩)) e := by
  pointwise [val_main_v98, val_main_v97, val_main_v96, val_main_v95, val_main_v94, val_main_v93, val_main_v92, val_main_v91,
    val_main_v90, val_main_v89, val_main_v88, val_main_v87, val_main_v86, val_main_v85, val_main_v84, val_main_v83,
    val_main_v82, val_main_v59, val_main_v58, val_main_v0, val_main_cst_4, val_main_cst_5, val_main_cst_6, val_main_call1_v5,
    val_main_call1_v4, val_main_call1_v3, val_main_call1_v2, val_main_call1_v1, val_main_call1_v0, val_main_call1_cst,
    val_main_call1_cst_0]
  simp only [v81]
  rfl

/-- The carried channels: the last two old ones, then the new one. -/
theorem v99 (b : Fin 32) (w : Fin 3) (r : Fin 24) (d : Fin 128) :
    val_main_v99 (F := Ideal) P C (ix4 b w r d) = if h : 1 + w.val < 3 then C (ix3 b ⟨1 + w, h⟩ ⟨r * 128 + d, by omega⟩)
      else P (ix2 b ⟨3072 + (r * 128 + d), by omega⟩) := by
  pointwise [val_main_v99, val_main_v31, val_main_v2, val_main_v1, val_main_v0]

end Cert.Gdn.Ref

end
-- ==== Proof.Gdn.Kernel.lean ====
/- What the kernel of the sample group's gated DeltaNet step computes at one grid point (one sequence): its blocks read as the
   arguments, its rows, the states of its eight heads and their read-outs. -/
module
public import proofs.«01_k».proof.Proof.Gen.GdnSampleIdeal.Frame
public import proofs.«01_k».proof.Proof.Gdn.Ref
public import Idealize.ShloMosaic.Lib.Pipeline.ValueKit
public import Idealize.ShloMosaic.Lib.Pipeline.Value
@[expose] public section
set_option maxRecDepth 16384
noncomputable section
open Idealize.ShloMosaic Idealize.ShloMosaic.TcCoe Idealize.SL.Sem
open Idealize.ShloMosaic.Pipeline (Dat)
namespace Cert.GdnSampleIdeal.Step
open Cert.GdnSampleIdeal Cert.GdnSampleIdeal.Gen
variable (m : (ℓ : Loc nD τ sig) → Buf (Elt Ideal) ℓ)
/-- Every window's block index at every grid point. -/
theorem idx_val : ∀ t : Fin cfg0.N, win0_0.index t = ![t.val, 0, 0]
    ∧ win0_1.index t = ![t.val, 0, 0, 0]
    ∧ win0_2.index t = ![0, 0, 0]
    ∧ win0_3.index t = ![t.val, 0, 0]
    ∧ win0_4.index t = ![t.val, 0, 0]
    ∧ win0_5.index t = ![0, 0]
    ∧ win0_6.index t = ![t.val, 0, 0, 0]
    ∧ win0_7.index t = ![t.val, 0, 0]
    ∧ win0_8.index t = ![t.val, 0, 0, 0]
    ∧ win0_9.index t = ![t.val, 0, 0, 0] :=
  (by decide +kernel : ∀ t : Fin grid0.N, _)

open Cert.Gdn (conv key query newState readOut gated silu)

section Blocks
variable (c : Dev nD) (t : Fin cfg0.N)

/-- The kernel's arguments. -/
abbrev P := m ((c : Thread nD τ).loc main_arg0)
abbrev C := m ((c : Thread nD τ).loc main_arg1)
abbrev W := m ((c : Thread nD τ).loc main_arg2)
abbrev G := m ((c : Thread nD τ).loc main_arg3)
abbrev S := m ((c : Thread nD τ).loc main_arg4)

/-- The channel block at point `t` is the argument's. -/
theorem blk0 (r : Fin 24) (d : Fin 128) : iblk m c 0 t (ix3 0 r d) = P m c (ix2 ⟨t.val, t.isLt⟩ ⟨3072 + (r * 128 + d), by omega⟩) := by
  blk_point [iblk, V, idx_val t]
/-- The carried channel block at point `t` is the argument's. -/
theorem blk1 (w : Fin 3) (r : Fin 24) (d : Fin 128) : iblk m c 1 t (ix4 0 w r d) = C m c (ix3 ⟨t.val, t.isLt⟩ w ⟨r * 128 + d, by omega⟩) := by
  blk_point [iblk, V, idx_val t]
/-- The tap block at point `t` is the argument's. -/
theorem blk2 (w : Fin 4) (r : Fin 24) (d : Fin 128) : iblk m c 2 t (ix3 w r d) = W m c (ix2 w ⟨r * 128 + d, by omega⟩) := by
  blk_point [iblk, V, idx_val t]
/-- The decay and scale block at point `t` is the argument's. -/
theorem blk3 (n : Fin 128) : iblk m c 3 t (ix3 0 0 n) = P m c (ix2 ⟨t.val, t.isLt⟩ ⟨11264 + n, by omega⟩) := by
  blk_point [iblk, V, idx_val t]
/-- The gate block at point `t` is the argument's. -/
theorem blk4 (h : Fin 8) (d : Fin 128) : iblk m c 4 t (ix3 0 h d) = P m c (ix2 ⟨t.val, t.isLt⟩ ⟨6144 + (h * 128 + d), by omega⟩) := by
  blk_point [iblk, V, idx_val t]
/-- The gain block at point `t` is the argument's. -/
theorem blk5 (d : Fin 128) : iblk m c 5 t (ix2 0 d) = G m c (ix1 d) := by
  blk_point [iblk, V, idx_val t]
/-- The state block at point `t` is the argument's. -/
theorem blk6 (h : Fin 8) (d e : Fin 128) : iblk m c 6 t (ix4 0 h d e) = S m c (ix4 ⟨t.val, t.isLt⟩ h d e) := by
  blk_point [iblk, V, idx_val t]

/-- The 24 rows the kernel convolves at point `t`. -/
theorem rows_at (r : Fin 24) (d : Fin 128) : k0_pay4 (F := Ideal) (iblk m c 0 t) (iblk m c 1 t) (iblk m c 2 t) (ix2 r d)
      = Gdn.Ref.rows (P m c) (C m c) (W m c) ⟨t.val, t.isLt⟩ r d := by
  pointwise [k0_pay4, k0_pay3, k0_pay2]
  simp only [blk0, blk1, blk2, Gdn.Ref.rows, conv, silu, zero_sub]
  have e (a b c d : EReal) : a + b + c + d = b + c + d + a := by ac_rfl
  rw [e]; rfl

end Blocks

section Pieces
variable (y : FVec Ideal S24x128 .f32) (sm : FVec Ideal S1x1x128 .f32) (s : FVec Ideal S1x1x128x128 .f32)

/-- The transposed keys. -/
theorem pay7_key (h : Fin 8) (d : Fin 128) : k0_pay7 y (ix2 d ⟨8 + h, by omega⟩) = key (fun r d => y (ix2 r d)) h d := by
  pointwise [k0_pay7, key, Gdn.unit]
  fin_cases h <;> rfl

/-- The transposed queries. -/
theorem pay7_query (h : Fin 8) (d : Fin 128) : k0_pay7 y (ix2 d ⟨h, by omega⟩) = query (fun r d => y (ix2 r d)) h d := by
  pointwise [k0_pay7, query, Gdn.unit]
  fin_cases h <;> rfl

/-- The step of the head `h`, whose old state is `s`. -/
def stepAt (h : Fin 8) (d e : Fin 128) : EReal :=
  newState (fun r d => y (ix2 r d)) (fun h => sm (ix3 0 0 ⟨8 + h, by omega⟩)) (fun h => sm (ix3 0 0 ⟨16 + h, by omega⟩))
    (fun _ d e => s (ix4 0 0 d e)) h d e

/-- What the body computes as head 0's new state. -/
theorem head0 (d e : Fin 128) : k0_pay10 y sm s (ix2 d e) = stepAt y sm s 0 d e := by
  have hk (d : Fin 128) : k0_pay7 y (ix2 d 8) = key _ 0 d := pay7_key y 0 d
  pointwise [k0_pay10, k0_pay8]; simp only [hk]; rfl
/-- What the body computes as head 1's new state. -/
theorem head1 (d e : Fin 128) : k0_pay13 y (k0_pay7 y) (k0_pay8 sm) s (ix2 d e) = stepAt y sm s 1 d e := by
  have hk (d : Fin 128) : k0_pay7 y (ix2 d 9) = key _ 1 d := pay7_key y 1 d
  pointwise [k0_pay13, k0_pay8]; simp only [hk]; rfl
/-- What the body computes as head 2's new state. -/
theorem head2 (d e : Fin 128) : k0_pay21 (k0_pay17 (k0_pay7 y)) (k0_pay18 y) (k0_pay19 (k0_pay8 sm)) (k0_pay20 (k0_pay8 sm)) s (ix2 d e) = stepAt y sm s 2 d e := by
  have hk (d : Fin 128) : k0_pay7 y (ix2 d 10) = key _ 2 d := pay7_key y 2 d
  pointwise [k0_pay21, k0_pay17, k0_pay18, k0_pay19, k0_pay8, k0_pay20]; simp only [hk]; rfl
/-- What the body computes as head 3's new state. -/
theorem head3 (d e : Fin 128) : k0_pay25 y (k0_pay7 y) (k0_pay8 sm) s (ix2 d e) = stepAt y sm s 3 d e := by
  have hk (d : Fin 128) : k0_pay7 y (ix2 d 11) = key _ 3 d := pay7_key y 3 d
  pointwise [k0_pay25, k0_pay8]; simp only [hk]; rfl
/-- What the body computes as head 4's new state. -/
theorem head4 (d e : Fin 128) : k0_pay28 y (k0_pay7 y) (k0_pay8 sm) s (ix2 d e) = stepAt y sm s 4 d e := by
  have hk (d : Fin 128) : k0_pay7 y (ix2 d 12) = key _ 4 d := pay7_key y 4 d
  pointwise [k0_pay28, k0_pay8]; simp only [hk]; rfl
/-- What the body computes as head 5's new state. -/
theorem head5 (d e : Fin 128) : k0_pay37 (k0_pay32 (k0_pay7 y)) (k0_pay33 y) (k0_pay34 (k0_pay8 sm)) (k0_pay35 (k0_pay8 sm)) (k0_pay36 s) (ix2 d e) = stepAt y sm s 5 d e := by
  have hk (d : Fin 128) : k0_pay7 y (ix2 d 13) = key _ 5 d := pay7_key y 5 d
  pointwise [k0_pay37, k0_pay32, k0_pay33, k0_pay34, k0_pay8, k0_pay35, k0_pay36]; simp only [hk]; rfl
/-- What the body computes as head 6's new state. -/
theorem head6 (d e : Fin 128) : k0_pay41 y (k0_pay7 y) (k0_pay8 sm) s (ix2 d e) = stepAt y sm s 6 d e := by
  have hk (d : Fin 128) : k0_pay7 y (ix2 d 14) = key _ 6 d := pay7_key y 6 d
  pointwise [k0_pay41, k0_pay8]; simp only [hk]; rfl
/-- What the body computes as head 7's new state. -/
theorem head7 (d e : Fin 128) : k0_pay43 y (k0_pay7 y) (k0_pay8 sm) s (ix2 d e) = stepAt y sm s 7 d e := by
  have hk (d : Fin 128) : k0_pay7 y (ix2 d 15) = key _ 7 d := pay7_key y 7 d
  pointwise [k0_pay43, k0_pay8]; simp only [hk]; rfl

/-- The read-out of head `h`, whose old state is `s`. -/
def rowAt (h : Fin 8) (e : Fin 128) : EReal := ∑ x, query (fun r d => y (ix2 r d)) h x * stepAt y sm s h x e

/-- What the body computes as head 0's read-out. -/
theorem row0 (e : Fin 128) : k0_pay12 (k0_pay9 y) (k0_pay10 y sm s) (ix2 0 e) = rowAt y sm s 0 e := by
  have hq (d : Fin 128) : k0_pay7 y (ix2 d 0) = query _ 0 d := pay7_query y 0 d
  pointwise [k0_pay12, k0_pay9]; simp only [hq, head0]; rfl
/-- What the body computes as head 1's read-out. -/
theorem row1 (e : Fin 128) : k0_pay15 y (k0_pay7 y) (k0_pay8 sm) s (ix2 0 e) = rowAt y sm s 1 e := by
  have hq (d : Fin 128) : k0_pay7 y (ix2 d 1) = query _ 1 d := pay7_query y 1 d
  pointwise [k0_pay15]; simp only [hq, head1]; rfl
/-- What the body computes as head 2's read-out. -/
theorem row2 (e : Fin 128) : k0_pay23 (k0_pay16 (k0_pay7 y)) (k0_pay17 (k0_pay7 y)) (k0_pay18 y) (k0_pay19 (k0_pay8 sm)) (k0_pay20 (k0_pay8 sm)) s (ix2 0 e) = rowAt y sm s 2 e := by
  have hq (d : Fin 128) : k0_pay7 y (ix2 d 2) = query _ 2 d := pay7_query y 2 d
  pointwise [k0_pay23, k0_pay16]; simp only [hq, head2]; rfl
/-- What the body computes as head 3's read-out. -/
theorem row3 (e : Fin 128) : k0_pay27 (k0_pay24 (k0_pay7 y)) (k0_pay25 y (k0_pay7 y) (k0_pay8 sm) s) (ix2 0 e) = rowAt y sm s 3 e := by
  have hq (d : Fin 128) : k0_pay7 y (ix2 d 3) = query _ 3 d := pay7_query y 3 d
  pointwise [k0_pay27, k0_pay24]; simp only [hq, head3]; rfl
/-- What the body computes as head 4's read-out. -/
theorem row4 (e : Fin 128) : k0_pay30 y (k0_pay7 y) (k0_pay8 sm) s (ix2 0 e) = rowAt y sm s 4 e := by
  have hq (d : Fin 128) : k0_pay7 y (ix2 d 4) = query _ 4 d := pay7_query y 4 d
  pointwise [k0_pay30]; simp only [hq, head4]; rfl
/-- What the body computes as head 5's read-out. -/
theorem row5 (e : Fin 128) : k0_pay39 (k0_pay31 (k0_pay7 y)) (k0_pay32 (k0_pay7 y)) (k0_pay33 y) (k0_pay34 (k0_pay8 sm)) (k0_pay35 (k0_pay8 sm)) (k0_pay36 s) (ix2 0 e) = rowAt y sm s 5 e := by
  have hq (d : Fin 128) : k0_pay7 y (ix2 d 5) = query _ 5 d := pay7_query y 5 d
  pointwise [k0_pay39, k0_pay31]; simp only [hq, head5]; rfl
/-- What the body computes as head 6's read-out. -/
theorem row6 (e : Fin 128) : ∑ x, k0_pay40 (k0_pay7 y) (ix2 x 0) * k0_pay41 y (k0_pay7 y) (k0_pay8 sm) s (ix2 x e) = rowAt y sm s 6 e := by
  have hq (d : Fin 128) : k0_pay7 y (ix2 d 6) = query _ 6 d := pay7_query y 6 d
  pointwise [k0_pay40]; simp only [hq, head6]; rfl
/-- What the body computes as head 7's read-out. -/
theorem row7 (e : Fin 128) : ∑ x, k0_pay7 y (ix2 x 7) * k0_pay43 y (k0_pay7 y) (k0_pay8 sm) s (ix2 x e) = rowAt y sm s 7 e := by
  have hq (d : Fin 128) : k0_pay7 y (ix2 d 7) = query _ 7 d := pay7_query y 7 d
  simp only [hq, head7]; rfl

end Pieces

/-- An index of a block's rectangle is its four coordinates. -/
theorem ix4_of (x : (⟨4, ![1, 1, 128, 128]⟩ : Shape).Idx) : ∃ d e : Fin 128, x = ix4 (0 : Fin 1) (0 : Fin 1) d e ∧ (x 2 : ℕ) = d ∧ (x 3 : ℕ) = e := by
  refine ⟨x 2, x 3, ?_, rfl, rfl⟩
  funext a; fin_cases a
  · exact Subsingleton.elim (α := Fin 1) _ _
  · exact Subsingleton.elim (α := Fin 1) _ _
  · rfl
  · rfl

/-- The stacked read-outs, row by row. -/
theorem pay45_at (y : FVec Ideal S24x128 .f32) (sm : FVec Ideal S1x1x128 .f32) (s0 s1 s2 s3 s4 s5 s6 s7 : FVec Ideal S1x1x128x128 .f32) (h : Fin 8) (e : Fin 128) :
    k0_pay45 y (k0_pay7 y) (k0_pay8 sm) (k0_pay12 (k0_pay9 y) (k0_pay10 y sm s0)) (k0_pay15 y (k0_pay7 y) (k0_pay8 sm) s1)
     (k0_pay23 (k0_pay16 (k0_pay7 y)) (k0_pay17 (k0_pay7 y)) (k0_pay18 y) (k0_pay19 (k0_pay8 sm)) (k0_pay20 (k0_pay8 sm)) s2)
     (k0_pay27 (k0_pay24 (k0_pay7 y)) (k0_pay25 y (k0_pay7 y) (k0_pay8 sm) s3)) (k0_pay30 y (k0_pay7 y) (k0_pay8 sm) s4)
     (k0_pay39 (k0_pay31 (k0_pay7 y)) (k0_pay32 (k0_pay7 y)) (k0_pay33 y) (k0_pay34 (k0_pay8 sm)) (k0_pay35 (k0_pay8 sm)) (k0_pay36 s5))
     (k0_pay40 (k0_pay7 y)) (k0_pay41 y (k0_pay7 y) (k0_pay8 sm) s6) s7 (ix2 h e)
     = rowAt y sm (![s0, s1, s2, s3, s4, s5, s6, s7] h) h e := by
  pointwise [k0_pay45]
  fin_cases h
  · exact row0 y sm s0 e
  · exact row1 y sm s1 e
  · exact row2 y sm s2 e
  · exact row3 y sm s3 e
  · exact row4 y sm s4 e
  · exact row5 y sm s5 e
  · exact row6 y sm s6 e
  · exact row7 y sm s7 e

end Cert.GdnSampleIdeal.Step
end
-- ==== Proof.Gdn.Final.lean ====
/- The kernel's new states and carried channels, array by array. -/
module
public import proofs.«01_k».proof.Proof.Gen.GdnSampleIdeal.Frame
public import proofs.«01_k».proof.Proof.Gdn.Ref
public import proofs.«01_k».proof.Proof.Gdn.Kernel
public import Idealize.ShloMosaic.Lib.Pipeline.ValueKit
public import Idealize.ShloMosaic.Lib.Pipeline.Value
@[expose] public section
set_option maxRecDepth 16384
noncomputable section
open Idealize.ShloMosaic Idealize.ShloMosaic.TcCoe Idealize.SL.Sem
open Idealize.ShloMosaic.Pipeline (Dat)
namespace Cert.GdnSampleIdeal.Step
open Cert.GdnSampleIdeal Cert.GdnSampleIdeal.Gen
variable (m : (ℓ : Loc nD τ sig) → Buf (Elt Ideal) ℓ)
open Cert.Gdn (conv key query newState readOut gated silu)
variable (c : Dev nD) (t : Fin cfg0.N)

/-- The step over the blocks of point `t` is the step over the arrays. -/
theorem step_close (h : Fin 8) (s : FVec Ideal S1x1x128x128 .f32) (hs : ∀ d e, s (ix4 0 0 d e) = S m c (ix4 ⟨t.val, t.isLt⟩ h d e)) (d e : Fin 128) :
    stepAt (k0_pay4 (F := Ideal) (iblk m c 0 t) (iblk m c 1 t) (iblk m c 2 t)) (iblk m c 3 t) s h d e
      = newState (Gdn.Ref.rows (P m c) (C m c) (W m c) ⟨t.val, t.isLt⟩) (Gdn.Ref.decay (P m c) ⟨t.val, t.isLt⟩) (Gdn.Ref.scale (P m c) ⟨t.val, t.isLt⟩)
          (Gdn.Ref.old (S m c) ⟨t.val, t.isLt⟩) h d e := by
  have h8 : iblk m c 3 t (ix3 0 0 ⟨8 + h, by omega⟩) = Gdn.Ref.decay (P m c) ⟨t.val, t.isLt⟩ h := by
    rw [blk3]; exact congrArg (P m c) (by blk_ext)
  have h16 : iblk m c 3 t (ix3 0 0 ⟨16 + h, by omega⟩) = Gdn.Ref.scale (P m c) ⟨t.val, t.isLt⟩ h := by
    rw [blk3]; exact congrArg (P m c) (by blk_ext)
  have hr : (fun r d => k0_pay4 (F := Ideal) (iblk m c 0 t) (iblk m c 1 t) (iblk m c 2 t) (ix2 r d))
      = Gdn.Ref.rows (P m c) (C m c) (W m c) ⟨t.val, t.isLt⟩ := by
    funext r d; exact rows_at m c t r d
  unfold stepAt newState
  rw [hr]
  simp only [h8, h16, hs]
  rfl

/-- The kernel's carried channels are the reference's. -/
theorem final_9 (c : Dev nD) : (dats m 0 c).arrAt 9 (cfgs 0).N = GdnSampleRefIdeal.Read.val_main_v99 (F := Ideal) (m ((c : Thread nD τ).loc main_arg0)) (m ((c : Thread nD τ).loc main_arg1)) := by
  refine (dats m 0 c).arrAt_eq_of_covers 9 _ (by decide +kernel) fun t hf y => ?_
  blk_simp; rw [after0_9]
  unfold outsAt0; frame_out
  obtain ⟨w, hw⟩ : ∃ w : Fin 3, w.val = y 1 := ⟨⟨y 1, (y 1).isLt⟩, rfl⟩
  obtain ⟨r, hr⟩ : ∃ r : Fin 24, r.val = y 2 := ⟨⟨y 2, (y 2).isLt⟩, rfl⟩
  obtain ⟨d, hd⟩ : ∃ d : Fin 128, d.val = y 3 := ⟨⟨y 3, (y 3).isLt⟩, rfl⟩
  have hy : (((View.whole main_v9_2).slice (win0_9.rect t)).emb y) = ix4 (⟨t.val, t.isLt⟩ : Fin 32) w r d := by
    blk_ext [idx_val t]
  rw [hy, Gdn.Ref.v99]
  canon_tiles x hx using (View.cover_of_tiledBy (s := S1x3x24x128) (Val := Elt Ideal) _ ![1, 1, 24, 128] (by sl_kernel_rfl) y)
  case piece0 =>
    rw [dif_neg (by omega)]
    idx_vars x
    pointwise [k0_pay6, k0_pay2]
    refine (blk0 m c t _ _).trans (congrArg (P m c) (by blk_ext))
  case piece1 =>
    rw [dif_pos (by omega)]
    idx_vars x
    have hw' : w.val = x1.val := hw.trans hx1
    pointwise [k0_pay5, k0_pay3]
    refine (blk1 m c t _ _ _).trans (congrArg (C m c) (by blk_ext))

/-- The kernel's new states are the reference's. -/
theorem final_8 (c : Dev nD) : (dats m 0 c).arrAt 8 (cfgs 0).N = GdnSampleRefIdeal.Read.val_main_v79 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp; rw [after0_8]
  unfold outsAt0; frame_out
  obtain ⟨h, hh⟩ : ∃ h : Fin 8, h.val = y 1 := ⟨⟨y 1, (y 1).isLt⟩, rfl⟩
  obtain ⟨d, hd⟩ : ∃ d : Fin 128, d.val = y 2 := ⟨⟨y 2, (y 2).isLt⟩, rfl⟩
  obtain ⟨e, he⟩ : ∃ e : Fin 128, e.val = y 3 := ⟨⟨y 3, (y 3).isLt⟩, rfl⟩
  have hy : (((View.whole main_v9_1).slice (win0_8.rect t)).emb y) = ix4 (⟨t.val, t.isLt⟩ : Fin 32) h d e := by
    blk_ext [idx_val t]
  rw [hy, Gdn.Ref.v79]
  canon_tiles x hx
  case piece0 =>
    have eh : h = 7 := Fin.ext (by omega)
    subst eh
    obtain ⟨d', e', rfl, h2, h3⟩ := ix4_of x
    obtain rfl : d = d' := Fin.ext (by omega)
    obtain rfl : e = e' := Fin.ext (by omega)
    pointwise [k0_pay44]
    refine (head7 _ _ _ _ _).trans (step_close m c t 7 _ (fun d e => ?_) _ _)
    pointwise []; exact blk6 m c t 7 d e
  case piece1 =>
    have eh : h = 6 := Fin.ext (by omega)
    subst eh
    obtain ⟨d', e', rfl, h2, h3⟩ := ix4_of x
    obtain rfl : d = d' := Fin.ext (by omega)
    obtain rfl : e = e' := Fin.ext (by omega)
    pointwise [k0_pay42]
    refine (head6 _ _ _ _ _).trans (step_close m c t 6 _ (fun d e => ?_) _ _)
    pointwise []; exact blk6 m c t 6 d e
  case piece2 =>
    have eh : h = 5 := Fin.ext (by omega)
    subst eh
    obtain ⟨d', e', rfl, h2, h3⟩ := ix4_of x
    obtain rfl : d = d' := Fin.ext (by omega)
    obtain rfl : e = e' := Fin.ext (by omega)
    pointwise [k0_pay38]
    refine (head5 _ _ _ _ _).trans (step_close m c t 5 _ (fun d e => ?_) _ _)
    pointwise []; exact blk6 m c t 5 d e
  case piece3 =>
    have eh : h = 4 := Fin.ext (by omega)
    subst eh
    obtain ⟨d', e', rfl, h2, h3⟩ := ix4_of x
    obtain rfl : d = d' := Fin.ext (by omega)
    obtain rfl : e = e' := Fin.ext (by omega)
    pointwise [k0_pay29]
    refine (head4 _ _ _ _ _).trans (step_close m c t 4 _ (fun d e => ?_) _ _)
    pointwise []; exact blk6 m c t 4 d e
  case piece4 =>
    have eh : h = 3 := Fin.ext (by omega)
    subst eh
    obtain ⟨d', e', rfl, h2, h3⟩ := ix4_of x
    obtain rfl : d = d' := Fin.ext (by omega)
    obtain rfl : e = e' := Fin.ext (by omega)
    pointwise [k0_pay26]
    refine (head3 _ _ _ _ _).trans (step_close m c t 3 _ (fun d e => ?_) _ _)
    pointwise []; exact blk6 m c t 3 d e
  case piece5 =>
    have eh : h = 2 := Fin.ext (by omega)
    subst eh
    obtain ⟨d', e', rfl, h2, h3⟩ := ix4_of x
    obtain rfl : d = d' := Fin.ext (by omega)
    obtain rfl : e = e' := Fin.ext (by omega)
    pointwise [k0_pay22]
    refine (head2 _ _ _ _ _).trans (step_close m c t 2 _ (fun d e => ?_) _ _)
    pointwise []; exact blk6 m c t 2 d e
  case piece6 =>
    have eh : h = 1 := Fin.ext (by omega)
    subst eh
    obtain ⟨d', e', rfl, h2, h3⟩ := ix4_of x
    obtain rfl : d = d' := Fin.ext (by omega)
    obtain rfl : e = e' := Fin.ext (by omega)
    pointwise [k0_pay14]
    refine (head1 _ _ _ _ _).trans (step_close m c t 1 _ (fun d e => ?_) _ _)
    pointwise []; exact blk6 m c t 1 d e
  case piece7 =>
    have eh : h = 0 := Fin.ext (by omega)
    subst eh
    obtain ⟨d', e', rfl, h2, h3⟩ := ix4_of x
    obtain rfl : d = d' := Fin.ext (by omega)
    obtain rfl : e = e' := Fin.ext (by omega)
    pointwise [k0_pay11]
    refine (head0 _ _ _ _ _).trans (step_close m c t 0 _ (fun d e => ?_) _ _)
    pointwise []; exact blk6 m c t 0 d e

end Cert.GdnSampleIdeal.Step
end
-- ==== Proof.Gdn.Final7.lean ====
/- The kernel's gated output, as an array. -/
module
public import proofs.«01_k».proof.Proof.Gen.GdnSampleIdeal.Frame
public import proofs.«01_k».proof.Proof.Gdn.Ref
public import proofs.«01_k».proof.Proof.Gdn.Final
public import Idealize.ShloMosaic.Lib.Pipeline.ValueKit
public import Idealize.ShloMosaic.Lib.Pipeline.Value
@[expose] public section
set_option maxRecDepth 16384
noncomputable section
open Idealize.ShloMosaic Idealize.ShloMosaic.TcCoe Idealize.SL.Sem
open Idealize.ShloMosaic.Pipeline (Dat)
namespace Cert.GdnSampleIdeal.Step
open Cert.GdnSampleIdeal Cert.GdnSampleIdeal.Gen
variable (m : (ℓ : Loc nD τ sig) → Buf (Elt Ideal) ℓ)
open Cert.Gdn (conv key query newState readOut gated silu)
/-- The kernel's gated outputs are the reference's. -/
theorem final_7 (c : Dev nD) : (dats m 0 c).arrAt 7 (cfgs 0).N = GdnSampleRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  unfold outsAt0; frame_out
  obtain ⟨h, hh⟩ : ∃ h : Fin 8, h.val = y 1 := ⟨⟨y 1, (y 1).isLt⟩, rfl⟩
  obtain ⟨d, hd⟩ : ∃ d : Fin 128, d.val = y 2 := ⟨⟨y 2, (y 2).isLt⟩, rfl⟩
  have hy : (((View.whole main_v9_0).slice (win0_7.rect t)).emb y) = ix3 (⟨t.val, t.isLt⟩ : Fin 32) h d := by
    blk_ext [idx_val t]
  rw [hy, Gdn.Ref.v98]
  generalize hs0 : View.ld (iblk m c 6 t) (Rect.unit ![0, 0, 0, 0] ![1, 1, 128, 128] inb_S1x8x128x128_S1x1x128x128_0_0_0_0) = s0
  generalize hs1 : View.ld (iblk m c 6 t) (Rect.unit ![0, 1, 0, 0] ![1, 1, 128, 128] inb_S1x8x128x128_S1x1x128x128_0_1_0_0) = s1
  generalize hs2 : View.ld (iblk m c 6 t) (Rect.unit ![0, 2, 0, 0] ![1, 1, 128, 128] inb_S1x8x128x128_S1x1x128x128_0_2_0_0) = s2
  generalize hs3 : View.ld (iblk m c 6 t) (Rect.unit ![0, 3, 0, 0] ![1, 1, 128, 128] inb_S1x8x128x128_S1x1x128x128_0_3_0_0) = s3
  generalize hs4 : View.ld (iblk m c 6 t) (Rect.unit ![0, 4, 0, 0] ![1, 1, 128, 128] inb_S1x8x128x128_S1x1x128x128_0_4_0_0) = s4
  generalize hs5 : View.ld (iblk m c 6 t) (Rect.unit ![0, 5, 0, 0] ![1, 1, 128, 128] inb_S1x8x128x128_S1x1x128x128_0_5_0_0) = s5
  generalize hs6 : View.ld (iblk m c 6 t) (Rect.unit ![0, 6, 0, 0] ![1, 1, 128, 128] inb_S1x8x128x128_S1x1x128x128_0_6_0_0) = s6
  generalize hs7 : View.ld (iblk m c 6 t) (Rect.unit ![0, 7, 0, 0] ![1, 1, 128, 128] inb_S1x8x128x128_S1x1x128x128_0_7_0_0) = s7
  unfold k0_pay48
  generalize ho : k0_pay45 (F := Ideal) _ _ _ _ _ _ _ _ _ _ _ _ = o
  have hob (h : Fin 8) (e : Fin 128) : o (ix2 h e) = readOut (Gdn.Ref.rows (P m c) (C m c) (W m c) ⟨t.val, t.isLt⟩)
      (Gdn.Ref.decay (P m c) ⟨t.val, t.isLt⟩) (Gdn.Ref.scale (P m c) ⟨t.val, t.isLt⟩) (Gdn.Ref.old (S m c) ⟨t.val, t.isLt⟩) h e := by
    rw [← ho]
    refine (pay45_at _ _ s0 s1 s2 s3 s4 s5 s6 s7 h e).trans ?_
    unfold rowAt readOut
    have hr : (fun r d => k0_pay4 (F := Ideal) (iblk m c 0 t) (iblk m c 1 t) (iblk m c 2 t) (ix2 r d))
        = Gdn.Ref.rows (P m c) (C m c) (W m c) ⟨t.val, t.isLt⟩ := by
      funext r d; exact rows_at m c t r d
    rw [hr]
    refine Finset.sum_congr rfl fun x _ => congrArg _ (step_close m c t h _ (fun d e => ?_) x e)
    fin_cases h
    · show s0 _ = _; rw [← hs0]; pointwise []; exact blk6 m c t 0 d e
    · show s1 _ = _; rw [← hs1]; pointwise []; exact blk6 m c t 1 d e
    · show s2 _ = _; rw [← hs2]; pointwise []; exact blk6 m c t 2 d e
    · show s3 _ = _; rw [← hs3]; pointwise []; exact blk6 m c t 3 d e
    · show s4 _ = _; rw [← hs4]; pointwise []; exact blk6 m c t 4 d e
    · show s5 _ = _; rw [← hs5]; pointwise []; exact blk6 m c t 5 d e
    · show s6 _ = _; rw [← hs6]; pointwise []; exact blk6 m c t 6 d e
    · show s7 _ = _; rw [← hs7]; pointwise []; exact blk6 m c t 7 d e
  have ey : y = (ix3 (0 : Fin 1) h d : S1x8x128.Idx) := by blk_ext
  refine (congrArg _ ey).trans ?_
  pointwise [k0_pay1, k0_pay46, k0_pay47]
  simp only [hob, blk4, blk5, zero_sub]
  rfl

end Cert.GdnSampleIdeal.Step
end
-- ==== Proof.Proj.Math.lean ====
/- The input projection of one token over the extended reals: its normalised row, that row against a column of the weights, and
   what each group of columns is turned into. No program is mentioned here. -/
module

public import Idealize.ShloMosaic.Lib.Pointwise

@[expose] public section

noncomputable section

open Idealize.ShloMosaic

namespace Cert.InProj

/-- A row divided by the root of its mean square, times its gain. -/
def normRow (x g : Fin 2048 → EReal) (k : Fin 2048) : EReal :=
  x k * Ideal.rsqrt (Ideal.div (∑ i, x i * x i) (Ideal.ofBits .f32 0x45000000#32) + Ideal.ofBits .f32 0x358637BD#32) * g k

/-- A row against a column. -/
def dotCol (h w : Fin 2048 → EReal) : EReal := ∑ k, h k * w k

/-- A head's row divided by the root of its mean square, times its gain. -/
def normHead (p g : Fin 128 → EReal) (d : Fin 128) : EReal :=
  p d * Ideal.rsqrt (Ideal.div (∑ e, p e * p e) (Ideal.ofBits .f32 0x43000000#32) + Ideal.ofBits .f32 0x358637BD#32) * g d

/-- The logistic function. -/
def sigm (u : EReal) : EReal := Ideal.div 1 (1 + Ideal.exp (-u))

/-- `log (1 + exp (-|u|))`. -/
def tail (u : EReal) : EReal := Ideal.log1p (Ideal.exp (-max u (-u)))

/-- The logarithm of the logistic function. -/
def logSig (u : EReal) : EReal := -(max (-u) 0 + tail u)

/-- `log (1 + exp u)`. -/
def softplus (u : EReal) : EReal := max u 0 + tail u

theorem tail_neg (u : EReal) : tail (-u) = tail u := by unfold tail; rw [neg_neg, max_comm]

end Cert.InProj

end
-- ==== Proof.Proj.Ref.lean ====
/- The reference of the input projection, read at an index: each of its results is a function of Math.lean of one token's row and
   a column of the weights. -/
module

public import proofs.«01_k».proof.Proof.Gen.ProjRefIdeal.Read
public import proofs.«01_k».proof.Proof.Proj.Math

@[expose] public section

set_option maxRecDepth 16384

noncomputable section

open Idealize.ShloMosaic Idealize.ShloMosaic.TcCoe Idealize.SL.Sem

namespace Cert.InProj.Ref

open Cert.ProjRefIdeal Cert.ProjRefIdeal.Gen Cert.ProjRefIdeal.Read

variable (X : FVec Ideal S8x2048x2048 .f32) (G : FVec Ideal S1x2048 .f32) (W : FVec Ideal S1x2048x11288 .f32)
  (Fb : FVec Ideal S1x8 .f32) (Qg Kg : FVec Ideal S1x128 .f32) (Al Dt : FVec Ideal S1x8 .f32)

/-- The normalised row. -/
theorem v13 (b : Fin 8) (l k : Fin 2048) : val_main_v13 (F := Ideal) X G (ix3 b l k)
    = normRow (fun i => X (ix3 b l i)) (fun i => G (ix2 0 i)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Column `n` of token `l` of sequence `b`. -/
def proj (b : Fin 8) (l : Fin 2048) (n : Fin 11288) : EReal :=
  dotCol (normRow (fun i => X (ix3 b l i)) (fun i => G (ix2 0 i))) (fun k => W (ix3 0 k n))

/-- The projection. -/
theorem v15 (b : Fin 8) (l : Fin 2048) (n : Fin 11288) : val_main_v15 (F := Ideal) X G W (ix3 b l n) = proj X G W b l n := by
  pointwise [val_main_v15, val_main_v14]
  simp only [v13]
  rfl

/-- The forget gate's log. -/
theorem v29 (b : Fin 8) (l : Fin 2048) (h : Fin 8) : val_main_v29 (F := Ideal) X G W Fb (ix3 b l h)
    = logSig (proj X G W b l ⟨3072 + h, by omega⟩ + Fb (ix2 0 h)) := by
  pointwise [val_main_v29, val_main_v28, val_main_v27, val_main_v26, val_main_v25, val_main_v16, val_main_call0_v0, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  simp only [v15]
  refine (congrArg (fun z : EReal => -z) (if_neg (fun h => h rfl))).trans ?_
  unfold logSig
  rw [← tail_neg]
  rfl

/-- The heads' queries. -/
theorem v42 (b : Fin 8) (l : Fin 2048) (h : Fin 8) (d : Fin 128) : val_main_v42 (F := Ideal) X G W Qg (ix4 b l h d)
    = normHead (fun e => proj X G W b l ⟨h * 128 + e, by omega⟩) (fun e => Qg (ix2 0 e)) d := by
  pointwise [val_main_v42, val_main_v41, val_main_v40, val_main_v39, val_main_v38, val_main_v37, val_main_v36, val_main_v35, val_main_v34, val_main_v33, val_main_v32, val_main_v31, val_main_v30, val_main_v20, val_main_v19, val_main_v17, val_main_cst_2, val_main_cst_3, val_main_cst_4]
  simp only [v15]
  rfl

/-- The heads' keys. -/
theorem v55 (b : Fin 8) (l : Fin 2048) (h : Fin 8) (d : Fin 128) : val_main_v55 (F := Ideal) X G W Kg (ix4 b l h d)
    = normHead (fun e => proj X G W b l ⟨1024 + (h * 128 + e), by omega⟩) (fun e => Kg (ix2 0 e)) d := by
  pointwise [val_main_v55, val_main_v54, val_main_v53, val_main_v52, val_main_v51, val_main_v50, val_main_v49, val_main_v48, val_main_v47, val_main_v46, val_main_v45, val_main_v44, val_main_v43, val_main_v22, val_main_v21, val_main_v18, val_main_cst_5, val_main_cst_6, val_main_cst_7]
  simp only [v15]
  rfl

/-- The heads' values. -/
theorem v24 (b : Fin 8) (l : Fin 2048) (h : Fin 8) (d : Fin 128) : val_main_v24 (F := Ideal) X G W (ix4 b l h d)
    = proj X G W b l ⟨2048 + (h * 128 + d), by omega⟩ := by
  pointwise [val_main_v24, val_main_v23]
  simp only [v15]

/-- The channels of the convolution. -/
theorem v56 (b : Fin 8) (l : Fin 2048) (ch : Fin 3072) : val_main_v56 (F := Ideal) X G W (ix3 b l ch)
    = proj X G W b l ⟨3080 + ch, by omega⟩ := by
  pointwise [val_main_v56]
  simp only [v15]

/-- The carried rows of the convolution. -/
theorem v59 (b : Fin 8) (w : Fin 3) (ch : Fin 3072) : val_main_v59 (F := Ideal) X G W (ix3 b w ch)
    = proj X G W b ⟨2045 + w, by omega⟩ ⟨3080 + ch, by omega⟩ := by
  pointwise [val_main_v59, val_main_v58, val_main_v57, val_main_cst_8, val_main_v56]
  simp only [v15]
  rw [dif_neg (by omega)]
  congr 1; exact Fin.ext (by simp only []; omega)

/-- The log decay. -/
theorem v72 (b : Fin 8) (l : Fin 2048) (h : Fin 8) : val_main_v72 (F := Ideal) X G W Al Dt (ix3 b l h)
    = -Ideal.exp (Al (ix2 0 h)) * softplus (proj X G W b l ⟨6152 + h, by omega⟩ + Dt (ix2 0 h)) := by
  pointwise [val_main_v72, val_main_v71, val_main_v70, val_main_v69, val_main_v68, val_main_v67, val_main_v66, val_main_v65, val_main_v64, val_main_v63, val_main_v62, val_main_v60, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
  simp only [v15]
  refine (congrArg (fun z : EReal => -Ideal.exp (Al (ix2 0 h)) * z) (if_neg (fun h => h rfl))).trans ?_
  rfl

/-- The step size. -/
theorem v78 (b : Fin 8) (l : Fin 2048) (h : Fin 8) : val_main_v78 (F := Ideal) X G W (ix3 b l h)
    = sigm (proj X G W b l ⟨6160 + h, by omega⟩) := by
  pointwise [val_main_v78, val_main_v77, val_main_v76, val_main_v75, val_main_v74, val_main_v73, val_main_v61, val_main_cst_9, val_main_cst_10]
  simp only [v15]
  rfl

/-- The output gate's logits. -/
theorem v80 (b : Fin 8) (l : Fin 2048) (h : Fin 8) (d : Fin 128) : val_main_v80 (F := Ideal) X G W (ix4 b l h d)
    = proj X G W b l ⟨6168 + (h * 128 + d), by omega⟩ := by
  pointwise [val_main_v80, val_main_v79]
  simp only [v15]

/-- The attention branch's gate. -/
theorem v87 (b : Fin 8) (l : Fin 2048) (n : Fin 2048) : val_main_v87 (F := Ideal) X G W (ix3 b l n)
    = sigm (proj X G W b l ⟨7192 + n, by omega⟩) := by
  pointwise [val_main_v87, val_main_v86, val_main_v85, val_main_v84, val_main_v83, val_main_v82, val_main_v81, val_main_cst_11, val_main_cst_12]
  simp only [v15]
  rfl

/-- The gated DeltaNet branch's gate. -/
theorem v94 (b : Fin 8) (l : Fin 2048) (n : Fin 2048) : val_main_v94 (F := Ideal) X G W (ix3 b l n)
    = sigm (proj X G W b l ⟨9240 + n, by omega⟩) := by
  pointwise [val_main_v94, val_main_v93, val_main_v92, val_main_v91, val_main_v90, val_main_v89, val_main_v88, val_main_cst_13, val_main_cst_14]
  simp only [v15]
  rfl

end Cert.InProj.Ref

end
-- ==== Proof.Proj.Pay.lean ====
/- What the input projection's kernel computes from its blocks, at an index. -/
module
public import proofs.«01_k».proof.Proof.Proj.Blocks
@[expose] public section
set_option maxRecDepth 16384
noncomputable section
open Idealize.ShloMosaic Idealize.ShloMosaic.TcCoe Idealize.SL.Sem
namespace Cert.ProjIdeal.Step
open Cert.ProjIdeal Cert.ProjIdeal.Gen Cert.InProj

/-- The normalised tile: each row is the normalised token. -/
theorem pay1 (x : S512x2048.Idx → EReal) (g : S1x2048.Idx → EReal) (r : Fin 512) (k : Fin 2048) :
    k0_pay1 (F := Ideal) x g (ix2 r k) = normRow (fun i => x (ix2 r i)) (fun i => g (ix2 0 i)) k := by
  pointwise [k0_pay1]
  rfl

/-- The tile's product. -/
theorem pay2 (h : S512x2048.Idx → EReal) (w : S2048x512.Idx → EReal) (r n : Fin 512) :
    k0_pay2 (F := Ideal) h w (ix2 r n) = dotCol (fun k => h (ix2 r k)) (fun k => w (ix2 k n)) := by
  pointwise [k0_pay2]
  rfl

theorem pay5 (h : S512x2048.Idx → EReal) (w : S2048x512.Idx → EReal) (r n : Fin 512) :
    k0_pay5 (F := Ideal) h w (ix2 r n) = sigm (k0_pay2 (F := Ideal) h w (ix2 r n)) := by
  pointwise [k0_pay5]
  rw [zero_sub]; rfl

theorem pay7 (p : S512x512.Idx → EReal) (g : S1x128.Idx → EReal) (r : Fin 512) (d : Fin 128) :
    k0_pay7 (F := Ideal) p g (ix2 r d) = normHead (fun e => p (ix2 r ⟨e, by omega⟩)) (fun e => g (ix2 0 e)) d := by
  pointwise [k0_pay7]
  rfl

theorem pay8 (p : S512x512.Idx → EReal) (g : S1x128.Idx → EReal) (r : Fin 512) (d : Fin 128) :
    k0_pay8 (F := Ideal) p g (ix2 r d) = normHead (fun e => p (ix2 r ⟨128 + e, by omega⟩)) (fun e => g (ix2 0 e)) d := by
  pointwise [k0_pay8]
  rfl

theorem pay3 (p : S512x512.Idx → EReal) (g : S1x128.Idx → EReal) (r : Fin 512) (d : Fin 128) :
    k0_pay3 (F := Ideal) (k0_pay9 p) (k0_pay10 p) g (ix2 r d) = normHead (fun e => p (ix2 r ⟨256 + e, by omega⟩)) (fun e => g (ix2 0 e)) d := by
  pointwise [k0_pay3, k0_pay9, k0_pay10]
  rfl

theorem pay4 (h : S512x2048.Idx → EReal) (w : S2048x512.Idx → EReal) (g : S1x128.Idx → EReal) (r : Fin 512) (d : Fin 128) :
    k0_pay4 (F := Ideal) h w g (ix2 r d) = normHead (fun e => k0_pay2 (F := Ideal) h w (ix2 r ⟨384 + e, by omega⟩)) (fun e => g (ix2 0 e)) d := by
  pointwise [k0_pay4]
  rfl

theorem lane8 : ∀ d : Fin 128, d.val < 8 → IntOp.cmpi CmpIPredicate.slt (BitVec.ofNat 32 d.val) 8#32 = 1#1 := by decide +kernel
theorem lane8' : ∀ d : Fin 128, ¬ d.val < 8 → IntOp.cmpi CmpIPredicate.slt (BitVec.ofNat 32 d.val) 8#32 = 0#1 := by decide +kernel
theorem lane16 : ∀ d : Fin 128, d.val < 16 → IntOp.cmpi CmpIPredicate.slt (BitVec.ofNat 32 d.val) 16#32 = 1#1 := by decide +kernel
theorem lane16' : ∀ d : Fin 128, ¬ d.val < 16 → IntOp.cmpi CmpIPredicate.slt (BitVec.ofNat 32 d.val) 16#32 = 0#1 := by decide +kernel

/-- The first eight small lanes: the logarithm of the forget gate. -/
theorem pay11_f (p : S512x512.Idx → EReal) (a b : S1x128.Idx → EReal) (r : Fin 512) (d : Fin 128) (h : d.val < 8) :
    k0_pay11 (F := Ideal) p a b (ix2 r d) = logSig (p (ix2 r ⟨d, by omega⟩) + a (ix2 0 d)) := by
  pointwise [k0_pay11]
  rw [lane8 d h]
  simp only [zero_sub, Scalar.select]
  rfl

/-- The next eight: the decay's logarithm. -/
theorem pay11_g (p : S512x512.Idx → EReal) (a b : S1x128.Idx → EReal) (r : Fin 512) (d : Fin 128) (h : 8 ≤ d.val) (h' : d.val < 16) :
    k0_pay11 (F := Ideal) p a b (ix2 r d) = -Ideal.exp (b (ix2 0 d)) * softplus (p (ix2 r ⟨d, by omega⟩) + a (ix2 0 d)) := by
  pointwise [k0_pay11]
  rw [lane8' d (by omega), lane16 d h']
  simp only [zero_sub, Scalar.select]
  rfl

/-- The remaining lanes: the write strength. -/
theorem pay11_b (p : S512x512.Idx → EReal) (a b : S1x128.Idx → EReal) (r : Fin 512) (d : Fin 128) (h : 16 ≤ d.val) :
    k0_pay11 (F := Ideal) p a b (ix2 r d) = sigm (p (ix2 r ⟨d, by omega⟩) + a (ix2 0 d)) := by
  pointwise [k0_pay11]
  rw [lane8' d (by omega), lane16' d (by omega)]
  simp only [zero_sub, Scalar.select]
  rfl

end Cert.ProjIdeal.Step
end
-- ==== Proof.Proj.Held.lean ====
/- The kernel keeps the tile's normalised tokens from a row of grid points' first point to its last. -/
module
public import proofs.«01_k».proof.Proof.Proj.Pay
public import Idealize.ShloMosaic.Lib.Pipeline.ValueKit.Held
@[expose] public section
set_option maxRecDepth 16384
noncomputable section
open Idealize.ShloMosaic Idealize.ShloMosaic.TcCoe Idealize.SL.Sem
namespace Cert.ProjIdeal.Step
open Cert.ProjIdeal Cert.ProjIdeal.Gen Cert.InProj
variable (m : (ℓ : Loc nD τ sig) → Buf (Elt Ideal) ℓ) (c : Dev nD) (t : Fin cfg0.N)

theorem sc_first (h : t.val % 23 = 0) (i) : (outsAt0 m c t.val t.isLt).2 i = k0_pay1 (F := Ideal) (iblk m c 0 t) (iblk m c 1 t) i := by
  rw [outsAt0_A m c t h (by omega) (by omega) (by omega) (by omega)]
  frame_out

theorem sc_keep (h : ¬ t.val % 23 = 0) (i) : (outsAt0 m c t.val t.isLt).2 i
    = (outsAt0 m c (t.val - 1) (Nat.lt_of_le_of_lt (Nat.sub_le _ _) t.isLt)).2 i := by
  by_cases h1 : t.val % 23 ≤ 3
  · rw [outsAt0_B m c t h h1 (by omega) (by omega) (by omega)]
    frame_out; rfl
  · by_cases h2 : t.val % 23 ≤ 13
    · rw [outsAt0_C m c t h h1 (by omega) (by omega) (by omega)]
      frame_out; rfl
    · by_cases h3 : t.val % 23 ≤ 21
      · rw [outsAt0_D m c t h h1 (by omega) (by omega) (by omega)]
        frame_out; rfl
      · rw [outsAt0_E m c t h h1 (by omega) (by omega) (by omega)]
        frame_out; rfl

/-- At every grid point the scratch holds the tile's normalised tokens. -/
theorem sc (r : Fin 512) (k : Fin 2048) : (outsAt0 m c t.val t.isLt).2 (ix2 r k)
    = normRow (fun i => X m c (ix3 ⟨(row t r).val / 2048, by omega⟩ ⟨(row t r).val % 2048, by omega⟩ i)) (fun i => G m c (ix2 0 i)) k := by
  rw [Pipeline.eq_of_write_hold_apply (fun n h => (outsAt0 m c n h).2) 23
    (fun t => k0_pay1 (F := Ideal) (iblk m c 0 t) (iblk m c 1 t)) (sc_first m c) (sc_keep m c) t]
  refine (pay1 _ _ r k).trans ?_
  have e : row ⟨23 * (t.val / 23), Pipeline.run_start_lt t⟩ r = row t r := Fin.ext (by simp only [row]; omega)
  congr 1
  · funext i; rw [iblk0]; refine (V35 m c _ i).trans ?_
    exact congrArg (fun R : Fin 16384 => X m c (ix3 ⟨R.val / 2048, by omega⟩ ⟨R.val % 2048, by omega⟩ i)) e
  · funext i; rw [iblk1]; exact V34 m c i

end Cert.ProjIdeal.Step
end
-- ==== Proof.Proj.Cases.lean ====
/- What the kernel stores of a tile, by the group of columns it lies in. -/
module
public import proofs.«01_k».proof.Proof.Proj.Held
@[expose] public section
set_option maxRecDepth 16384
noncomputable section
open Idealize.ShloMosaic Idealize.ShloMosaic.TcCoe Idealize.SL.Sem
namespace Cert.ProjIdeal.Step
open Cert.ProjIdeal Cert.ProjIdeal.Gen Cert.InProj
variable (m : (ℓ : Loc nD τ sig) → Buf (Elt Ideal) ℓ) (c : Dev nD) (t : Fin cfg0.N)

/-- The tile's product with the kept tokens is the layer's projection. -/
theorem acc_at (h : S512x2048.Idx → EReal) (hh : ∀ r k, h (ix2 r k) = (outsAt0 m c t.val t.isLt).2 (ix2 r k)) (r n : Fin 512)
    (hn : (col t n).val < 11288) : k0_pay2 (F := Ideal) h (iblk m c 2 t) (ix2 r n) = proj m c (row t r) (src (col t n)) := by
  refine (pay2 _ _ r n).trans ?_
  unfold proj InProj.Ref.proj
  congr 1
  · funext k; rw [hh]; exact sc m c t r k
  · funext k; rw [iblk2]; exact V16 m c k (col t n) hn

/-- A normalised head's entry: the head's 128 columns of the layer's projection, normalised. -/
def headAt (r n : Fin 512) : EReal :=
  normHead (fun e => proj m c (row t r) (src (col t ⟨n.val / 128 * 128 + e, by omega⟩)))
    (fun e => V m c main_v25 (ix2 0 (col t ⟨n.val / 128 * 128 + e, by omega⟩))) ⟨n.val % 128, by omega⟩

theorem out_C (h : ¬ t.val % 23 ≤ 3) (h' : t.val % 23 ≤ 13) (r n : Fin 512) :
    (outsAt0 m c t.val t.isLt).1 (ix2 r n) = proj m c (row t r) (src (col t n)) := by
  have hk := sc_keep m c t (by omega)
  rw [outsAt0_C m c t (by omega) h (by omega) (by omega) (by omega)]
  frame_out
  exact acc_at m c t _ (fun r k => (congrFun ((Memref.isWhole_whole _).read_unread _) _).trans (hk _).symm) r n (by unfold col; dsimp only; omega)

theorem out_D (h : ¬ t.val % 23 ≤ 13) (h' : t.val % 23 ≤ 21) (r n : Fin 512) :
    (outsAt0 m c t.val t.isLt).1 (ix2 r n) = sigm (proj m c (row t r) (src (col t n))) := by
  have hk := sc_keep m c t (by omega)
  rw [outsAt0_D m c t (by omega) (by omega) (by omega) (by omega) (by omega)]
  frame_out
  refine (pay5 _ _ r n).trans (congrArg _ ?_)
  exact acc_at m c t _ (fun r k => (congrFun ((Memref.isWhole_whole _).read_unread _) _).trans (hk _).symm) r n (by unfold col; dsimp only; omega)

theorem head_eq (h : S512x2048.Idx → EReal) (hh : ∀ r k, h (ix2 r k) = (outsAt0 m c t.val t.isLt).2 (ix2 r k)) (ht : t.val % 23 ≤ 3)
    (r n : Fin 512) (o : Nat) (ho : o + 128 ≤ 512) (hn : n.val / 128 * 128 = o) (g : S1x128.Idx → EReal)
    (hg : ∀ e : Fin 128, g (ix2 0 e) = iblk m c 3 t (ix2 0 (⟨o + e, by omega⟩ : Fin 512))) :
    normHead (fun e => k0_pay2 (F := Ideal) h (iblk m c 2 t) (ix2 r (⟨o + e, by omega⟩ : Fin 512))) (fun e => g (ix2 0 e))
      ⟨n.val % 128, by omega⟩ = headAt m c t r n := by
  unfold headAt
  subst hn
  congr 1
  · funext e; exact acc_at m c t h hh r _ (by unfold col; dsimp only; omega)
  · funext e; rw [hg, iblk3]; rfl

/-- The four head tiles of a stored block, at an index. -/
theorem heads_at (h : S512x2048.Idx → EReal) (hh : ∀ r k, h (ix2 r k) = (outsAt0 m c t.val t.isLt).2 (ix2 r k)) (ht : t.val % 23 ≤ 3)
    (r n : Fin 512) :
    View.canon (Val := Elt Ideal) (s := S512x512) (e := .f32)
      [⟨Rect.unit ![0, 384] ![512, 128] inb_S512x512_S512x128_0_384,
          k0_pay4 (F := Ideal) h (iblk m c 2 t)
            (View.ld (iblk m c 3 t) (Rect.unit ![0, 384] ![1, 128] inb_S1x512_S1x128_0_384))⟩,
        ⟨Rect.unit ![0, 256] ![512, 128] inb_S512x512_S512x128_0_256,
          k0_pay3 (F := Ideal) (k0_pay9 (k0_pay2 h (iblk m c 2 t)))
            (k0_pay10 (k0_pay2 h (iblk m c 2 t)))
            (View.ld (iblk m c 3 t) (Rect.unit ![0, 256] ![1, 128] inb_S1x512_S1x128_0_256))⟩,
        ⟨Rect.unit ![0, 128] ![512, 128] inb_S512x512_S512x128_0_128,
          k0_pay8 (F := Ideal) (k0_pay2 h (iblk m c 2 t))
            (View.ld (iblk m c 3 t) (Rect.unit ![0, 128] ![1, 128] inb_S1x512_S1x128_0_128))⟩,
        ⟨Rect.unit ![0, 0] ![512, 128] inb_S512x512_S512x128_0_0,
          k0_pay7 (F := Ideal) (k0_pay2 h (iblk m c 2 t))
            (View.ld (iblk m c 3 t) (Rect.unit ![0, 0] ![1, 128] inb_S1x512_S1x128_0_0))⟩]
      (ix2 r n) = headAt m c t r n := by
  canon_tiles x hx
  case piece0 =>
    have h1 : n.val = 384 + (x 1).val := hx1
    have h0 : r.val = (x 0).val := hx0
    have ex : x = (ix2 r (⟨n.val % 128, by omega⟩ : Fin 128) : S512x128.Idx) := by blk_ext
    rw [ex]
    refine ((pay4 _ _ _ r _).trans ?_).trans (head_eq m c t h hh ht r n 384 (by omega) (by omega)
      (View.ld (iblk m c 3 t) (Rect.unit ![0, 384] ![1, 128] inb_S1x512_S1x128_0_384)) fun e => ?_)
    · rfl
    · pointwise []
  case piece1 =>
    have h1 : n.val = 256 + (x 1).val := hx1
    have h0 : r.val = (x 0).val := hx0
    have ex : x = (ix2 r (⟨n.val % 128, by omega⟩ : Fin 128) : S512x128.Idx) := by blk_ext
    rw [ex]
    refine ((pay3 _ _ r _).trans ?_).trans (head_eq m c t h hh ht r n 256 (by omega) (by omega)
      (View.ld (iblk m c 3 t) (Rect.unit ![0, 256] ![1, 128] inb_S1x512_S1x128_0_256)) fun e => ?_)
    · rfl
    · pointwise []
  case piece2 =>
    have h1 : n.val = 128 + (x 1).val := hx1
    have h0 : r.val = (x 0).val := hx0
    have ex : x = (ix2 r (⟨n.val % 128, by omega⟩ : Fin 128) : S512x128.Idx) := by blk_ext
    rw [ex]
    refine ((pay8 _ _ r _).trans ?_).trans (head_eq m c t h hh ht r n 128 (by omega) (by omega)
      (View.ld (iblk m c 3 t) (Rect.unit ![0, 128] ![1, 128] inb_S1x512_S1x128_0_128)) fun e => ?_)
    · rfl
    · pointwise []
  case piece3 =>
    have h1 : n.val = 0 + (x 1).val := hx1.trans (Nat.zero_add _).symm
    have h0 : r.val = (x 0).val := hx0
    have ex : x = (ix2 r (⟨n.val % 128, by omega⟩ : Fin 128) : S512x128.Idx) := by blk_ext
    rw [ex]
    refine ((pay7 _ _ r _).trans ?_).trans (head_eq m c t h hh ht r n 0 (by omega) (by omega)
      (View.ld (iblk m c 3 t) (Rect.unit ![0, 0] ![1, 128] inb_S1x512_S1x128_0_0)) fun e => ?_)
    · simp only [Nat.zero_add]
    · pointwise []

/-- The last tile's first 128 lanes are the small columns' values. -/
theorem out_E (h : t.val % 23 = 22) (r : Fin 512) (n : Fin 128) :
    (outsAt0 m c t.val t.isLt).1 (ix2 r ⟨n, by omega⟩)
      = k0_pay11 (F := Ideal) (k0_pay2 (fun i => (outsAt0 m c t.val t.isLt).2 i) (iblk m c 2 t))
        (fun i => V m c main_v33 (ix2 0 (i 1))) (fun i => V m c main_v33 (ix2 1 (i 1))) (ix2 r n) := by
  have hk : (fun i => (outsAt0 m c t.val t.isLt).2 i) = (outsAt0 m c (t.val - 1) (Nat.lt_of_le_of_lt (Nat.sub_le _ _) t.isLt)).2 :=
    funext fun i => sc_keep m c t (by omega) i
  rw [hk, outsAt0_E m c t (by omega) (by omega) (by omega) (by omega) (by omega)]
  frame_out
  generalize hy : (ix2 r (⟨n, by omega⟩ : Fin 512) : S512x512.Idx) = y
  have hy0 : (y 0).val = r.val := by rw [← hy]; rfl
  have hy1 : (y 1).val = n.val := by rw [← hy]; rfl
  canon_tiles x hx using (View.cover_of_tiledBy (s := S512x512) (Val := Elt Ideal) _ ![512, 128] (by sl_kernel_rfl) y)
  case piece0 => omega
  case piece1 =>
    have ex : x = (ix2 r n : S512x128.Idx) := by blk_ext
    rw [ex, (Memref.isWhole_whole _).read_unread]
    have e0 : View.ld (iblk m c 4 t) (Rect.unit ![0, 0] ![1, 128] inb_S8x128_S1x128_0_0) = fun i : S1x128.Idx => V m c main_v33 (ix2 0 (i 1)) := by
      funext i; idx_vars i; pointwise []; exact iblk4 m c t 0 _
    have e1 : View.ld (iblk m c 4 t) (Rect.unit ![1, 0] ![1, 128] inb_S8x128_S1x128_1_0) = fun i : S1x128.Idx => V m c main_v33 (ix2 1 (i 1)) := by
      funext i; idx_vars i; pointwise []; exact iblk4 m c t 1 _
    exact congrArg₂ (fun a b => k0_pay11 (F := Ideal) _ a b (ix2 r n)) e0 e1

/-- The forget gate's logarithm. -/
theorem out_f (h : t.val % 23 = 22) (r : Fin 512) (n : Fin 128) (hn : n.val < 8) :
    (outsAt0 m c t.val t.isLt).1 (ix2 r ⟨n, by omega⟩) = logSig (proj m c (row t r) (src (col t ⟨n, by omega⟩)) + Fb m c (ix2 0 ⟨n, hn⟩)) := by
  refine (out_E m c t h r n).trans ?_
  rw [pay11_f _ _ _ _ _ hn]
  congr 1
  exact congrArg₂ (· + ·) (acc_at m c t _ (fun _ _ => rfl) r _ (by unfold col; dsimp only; omega)) (V33_f m c n hn)

/-- The decay's logarithm. -/
theorem out_g (h : t.val % 23 = 22) (r : Fin 512) (n : Fin 128) (hn : 8 ≤ n.val) (hn' : n.val < 16) :
    (outsAt0 m c t.val t.isLt).1 (ix2 r ⟨n, by omega⟩) = -Ideal.exp (Al m c (ix2 0 ⟨n - 8, by omega⟩)) * softplus (proj m c (row t r) (src (col t ⟨n, by omega⟩)) + Dt m c (ix2 0 ⟨n - 8, by omega⟩)) := by
  refine (out_E m c t h r n).trans ?_
  rw [pay11_g _ _ _ _ _ hn hn']
  refine congrArg₂ (fun a b => -Ideal.exp a * softplus b) (V33_a m c n hn hn') ?_
  exact congrArg₂ (· + ·) (acc_at m c t _ (fun _ _ => rfl) r _ (by unfold col; dsimp only; omega)) (V33_d m c n hn hn')

/-- The write strength. -/
theorem out_b (h : t.val % 23 = 22) (r : Fin 512) (n : Fin 128) (hn : 16 ≤ n.val) (hn' : n.val < 24) :
    (outsAt0 m c t.val t.isLt).1 (ix2 r ⟨n, by omega⟩) = sigm (proj m c (row t r) (src (col t ⟨n, by omega⟩))) := by
  refine (out_E m c t h r n).trans ?_
  rw [pay11_b _ _ _ _ _ hn]
  congr 1
  refine (congrArg₂ (· + ·) (acc_at m c t _ (fun _ _ => rfl) r _ (by unfold col; dsimp only; omega)) (V33_z m c n hn)).trans ?_
  exact add_zero _

theorem out_A (h : t.val % 23 = 0) (r : Fin 512) (n : Fin 512) :
    (outsAt0 m c t.val t.isLt).1 (ix2 r n) = headAt m c t r n := by
  have hs := sc_first m c t h
  rw [outsAt0_A m c t (by omega) (by omega) (by omega) (by omega) (by omega)]
  frame_out
  exact heads_at m c t _ (fun r k => (hs _).symm) (by omega) r n

theorem out_B (h : t.val % 23 ≤ 3) (h' : ¬ t.val % 23 = 0) (r : Fin 512) (n : Fin 512) :
    (outsAt0 m c t.val t.isLt).1 (ix2 r n) = headAt m c t r n := by
  have hk := sc_keep m c t h'
  rw [outsAt0_B m c t h' (by omega) (by omega) (by omega) (by omega)]
  frame_out
  exact heads_at m c t _ (fun r k => (congrFun ((Memref.isWhole_whole _).read_unread _) _).trans (hk _).symm) (by omega) r n

end Cert.ProjIdeal.Step
end
-- ==== Proof.Proj.Final.lean ====
/- The kernel's output array, by the group of columns. -/
module
public import proofs.«01_k».proof.Proof.Proj.Cases
@[expose] public section
set_option maxRecDepth 16384
noncomputable section
open Idealize.ShloMosaic Idealize.ShloMosaic.TcCoe Idealize.SL.Sem
open Idealize.ShloMosaic.Pipeline (Dat)
namespace Cert.ProjIdeal.Step
open Cert.ProjIdeal Cert.ProjIdeal.Gen Cert.InProj
variable (m : (ℓ : Loc nD τ sig) → Buf (Elt Ideal) ℓ) (c : Dev nD)

/-- The grid point whose tile holds token `R` and column `n`. -/
def pt (R : Fin 16384) (n : Fin 11776) : Fin cfg0.N :=
  ⟨R.val / 512 * 23 + n.val / 512, (by omega : R.val / 512 * 23 + n.val / 512 < 736)⟩

/-- The entry the kernel stores for token `R` and column `n`. -/
def stored (R : Fin 16384) (n : Fin 11776) : EReal :=
  (outsAt0 m c (pt R n).val (pt R n).isLt).1 (ix2 (⟨R.val % 512, by omega⟩ : Fin 512) (⟨n.val % 512, by omega⟩ : Fin 512))

theorem outs_congr {a b : Nat} (ha : a < cfg0.N) (hb : b < cfg0.N) (e : a = b) : (outsAt0 m c a ha).1 = (outsAt0 m c b hb).1 := by
  subst e; rfl

theorem stored_at (t : Fin cfg0.N) (r n : Fin 512) : stored m c (row t r) (col t n) = (outsAt0 m c t.val t.isLt).1 (ix2 r n) := by
  have ht := point_lt t
  have e : (pt (row t r) (col t n)).val = t.val := by simp only [pt, row, col]; omega
  have e1 : (⟨(row t r).val % 512, by omega⟩ : Fin 512) = r := Fin.ext (by simp only [row]; omega)
  have e2 : (⟨(col t n).val % 512, by omega⟩ : Fin 512) = n := Fin.ext (by simp only [col]; omega)
  unfold stored
  rw [e1, e2, outs_congr m c _ t.isLt e]

/-- The kernel's output array. -/
theorem final_5 : (dats m 0 c).arrAt 5 (cfgs 0).N = fun i : S16384x11776.Idx => stored m c (i 0) (i 1) := by
  refine (dats m 0 c).arrAt_eq_of_covers 5 _ (by decide +kernel) fun t hf y => ?_
  blk_simp; rw [after0_5]
  obtain ⟨r, hr⟩ : ∃ r : Fin 512, r.val = y 0 := ⟨⟨y 0, (y 0).isLt⟩, rfl⟩
  obtain ⟨n, hn⟩ : ∃ n : Fin 512, n.val = y 1 := ⟨⟨y 1, (y 1).isLt⟩, rfl⟩
  have hy : (((View.whole main_v36).slice (win0_5.rect t)).emb y) = ix2 (row t r) (col t n) := by
    blk_ext [row, col, idx_val t]
  have ey : y = (ix2 r n : S512x512.Idx) := by blk_ext
  rw [hy]
  refine Eq.trans ?_ (stored_at m c t r n).symm
  exact congrArg _ ey

variable (R : Fin 16384)

theorem row_pt (n : Fin 11776) : row (pt R n) ⟨R.val % 512, by omega⟩ = R := Fin.ext (by simp only [row, pt]; omega)
theorem col_pt (n : Fin 11776) : col (pt R n) ⟨n.val % 512, by omega⟩ = n := Fin.ext (by simp only [col, pt]; omega)

/-- The first 2048 columns: the normalised heads of queries and keys. -/
theorem stored_head (n : Fin 11776) (h : n.val < 2048) : stored m c R n
    = normHead (fun e => proj m c R (src ⟨n.val / 128 * 128 + e, by omega⟩))
      (fun e => V m c main_v25 (ix2 0 (⟨n.val / 128 * 128 + e, by omega⟩ : Fin 11776))) ⟨n.val % 128, by omega⟩ := by
  have hp : (pt R n).val % 23 ≤ 3 := by simp only [pt]; omega
  have e0 : stored m c R n = headAt m c (pt R n) ⟨R.val % 512, by omega⟩ ⟨n.val % 512, by omega⟩ := by
    by_cases hz : (pt R n).val % 23 = 0
    · exact out_A m c _ hz _ _
    · exact out_B m c _ hp hz _ _
  rw [e0]; unfold headAt
  have ec (e : Fin 128) : col (pt R n) ⟨n.val % 512 / 128 * 128 + e, by omega⟩ = ⟨n.val / 128 * 128 + e, by omega⟩ :=
    Fin.ext (by simp only [col, pt]; omega)
  have ed : (⟨n.val % 512 % 128, by omega⟩ : Fin 128) = ⟨n.val % 128, by omega⟩ := Fin.ext (by simp only; omega)
  simp only [ec, ed, row_pt]

/-- The columns up to 7168: the projection itself. -/
theorem stored_raw (n : Fin 11776) (h : 2048 ≤ n.val) (h' : n.val < 7168) : stored m c R n = proj m c R (src n) := by
  refine (out_C m c (pt R n) (by simp only [pt]; omega) (by simp only [pt]; omega) _ _).trans ?_
  rw [row_pt, col_pt]

/-- The columns from 7168 to 11264: the gates. -/
theorem stored_gate (n : Fin 11776) (h : 7168 ≤ n.val) (h' : n.val < 11264) : stored m c R n = sigm (proj m c R (src n)) := by
  refine (out_D m c (pt R n) (by simp only [pt]; omega) (by simp only [pt]; omega) _ _).trans ?_
  rw [row_pt, col_pt]

/-- The last tile's first 128 columns, as stored at its grid point. -/
theorem stored_small (n : Fin 128) : stored m c R ⟨11264 + n, by omega⟩
    = (outsAt0 m c (pt R ⟨11264, by omega⟩).val (pt R ⟨11264, by omega⟩).isLt).1
        (ix2 (⟨R.val % 512, by omega⟩ : Fin 512) (⟨n.val, by omega⟩ : Fin 512)) := by
  rw [← stored_at, row_pt]
  exact congrArg _ (Fin.ext (by simp only [col, pt]; omega))

theorem last_pt : (pt R ⟨11264, by omega⟩).val % 23 = 22 := by simp only [pt]; omega

/-- The forget gate's logarithm. -/
theorem stored_f (n : Fin 8) : stored m c R ⟨11264 + (0 + n), by omega⟩ = logSig (proj m c R ⟨3072 + n, by omega⟩ + Fb m c (ix2 0 n)) := by
  rw [show stored m c R ⟨11264 + (0 + n), by omega⟩ = _ from stored_small m c R (⟨0 + n, by omega⟩ : Fin 128)]
  refine (out_f m c _ (last_pt R) _ (⟨0 + n, by omega⟩ : Fin 128) (by show 0 + n.val < 8; omega)).trans ?_
  rw [row_pt]
  have hv : (col (pt R ⟨11264, by omega⟩) ⟨0 + n, by omega⟩).val = 11264 + (0 + n.val) := by simp only [col, pt]; omega
  have ec : src (col (pt R ⟨11264, by omega⟩) ⟨0 + n, by omega⟩) = ⟨3072 + n, by omega⟩ :=
    Fin.ext (by rw [src_f _ (by omega) (by omega), hv]; simp only; omega)
  have en : (⟨0 + n.val, by omega⟩ : Fin 8) = n := Fin.ext (Nat.zero_add _)
  rw [ec, en]

/-- The decay's logarithm. -/
theorem stored_g (n : Fin 8) : stored m c R ⟨11264 + (8 + n), by omega⟩ = -Ideal.exp (Al m c (ix2 0 n)) * softplus (proj m c R ⟨6152 + n, by omega⟩ + Dt m c (ix2 0 n)) := by
  rw [show stored m c R ⟨11264 + (8 + n), by omega⟩ = _ from stored_small m c R (⟨8 + n, by omega⟩ : Fin 128)]
  refine (out_g m c _ (last_pt R) _ (⟨8 + n, by omega⟩ : Fin 128) (by show 8 ≤ 8 + n.val; omega) (by show 8 + n.val < 16; omega)).trans ?_
  rw [row_pt]
  have hv : (col (pt R ⟨11264, by omega⟩) ⟨8 + n, by omega⟩).val = 11264 + (8 + n.val) := by simp only [col, pt]; omega
  have ec : src (col (pt R ⟨11264, by omega⟩) ⟨8 + n, by omega⟩) = ⟨6152 + n, by omega⟩ :=
    Fin.ext (by rw [src_gb _ (by omega), hv]; simp only; omega)
  have en : (⟨8 + n.val - 8, by omega⟩ : Fin 8) = n := Fin.ext (Nat.add_sub_cancel_left ..)
  rw [ec, en]

/-- The write strength. -/
theorem stored_b (n : Fin 8) : stored m c R ⟨11264 + (16 + n), by omega⟩ = sigm (proj m c R ⟨6160 + n, by omega⟩) := by
  rw [show stored m c R ⟨11264 + (16 + n), by omega⟩ = _ from stored_small m c R (⟨16 + n, by omega⟩ : Fin 128)]
  refine (out_b m c _ (last_pt R) _ (⟨16 + n, by omega⟩ : Fin 128) (by show 16 ≤ 16 + n.val; omega) (by show 16 + n.val < 24; omega)).trans ?_
  rw [row_pt]
  have hv : (col (pt R ⟨11264, by omega⟩) ⟨16 + n, by omega⟩).val = 11264 + (16 + n.val) := by simp only [col, pt]; omega
  have ec : src (col (pt R ⟨11264, by omega⟩) ⟨16 + n, by omega⟩) = ⟨6160 + n, by omega⟩ :=
    Fin.ext (by rw [src_gb _ (by omega), hv]; simp only; omega)
  rw [ec]

/-! ## The results, at an index -/

/-- The row of a sequence's token. -/
def tok (b : Fin 8) (l : Fin 2048) : Fin 16384 := ⟨b * 2048 + l, by omega⟩

theorem proj_tok (b : Fin 8) (l : Fin 2048) (n : Fin 11288) :
    proj m c (tok b l) n = InProj.Ref.proj (X m c) (G m c) (W m c) b l n := by
  have e1 : (⟨(tok b l).val / 2048, by omega⟩ : Fin 8) = b := Fin.ext (by simp only [tok]; omega)
  have e2 : (⟨(tok b l).val % 2048, by omega⟩ : Fin 2048) = l := Fin.ext (by simp only [tok]; omega)
  unfold proj; rw [e1, e2]

variable (b : Fin 8) (l : Fin 2048)

/-- The queries. -/
theorem out_q (h : Fin 8) (d : Fin 128) : stored m c (tok b l) ⟨h * 128 + d, by omega⟩
    = ProjRefIdeal.Read.val_main_v42 (F := Ideal) (X m c) (G m c) (W m c) (Qg m c) (ix4 b l h d) := by
  rw [InProj.Ref.v42, stored_head m c _ _ (by simp only; omega)]
  have ec (e : Fin 128) : (⟨(h.val * 128 + d.val) / 128 * 128 + e.val, by omega⟩ : Fin 11776) = ⟨h * 128 + e, by omega⟩ :=
    Fin.ext (by simp only; omega)
  have es (e : Fin 128) : src ⟨h * 128 + e, by omega⟩ = ⟨h * 128 + e, by omega⟩ := Fin.ext (src_low _ (by simp only; omega))
  have ed : (⟨(h.val * 128 + d.val) % 128, by omega⟩ : Fin 128) = d := Fin.ext (by simp only; omega)
  simp only [ec, ed, es, proj_tok]
  congr 1
  funext e
  refine (V25_q m c _ (by simp only; omega)).trans (congrArg _ ?_)
  exact congrArg (ix2 0) (Fin.ext (by simp only; omega))

/-- The keys. -/
theorem out_k (h : Fin 8) (d : Fin 128) : stored m c (tok b l) ⟨1024 + (h * 128 + d), by omega⟩
    = ProjRefIdeal.Read.val_main_v55 (F := Ideal) (X m c) (G m c) (W m c) (Kg m c) (ix4 b l h d) := by
  rw [InProj.Ref.v55, stored_head m c _ _ (by simp only; omega)]
  have ec (e : Fin 128) : (⟨(1024 + (h.val * 128 + d.val)) / 128 * 128 + e.val, by omega⟩ : Fin 11776) = ⟨1024 + (h * 128 + e), by omega⟩ :=
    Fin.ext (by simp only; omega)
  have es (e : Fin 128) : src ⟨1024 + (h * 128 + e), by omega⟩ = ⟨1024 + (h * 128 + e), by omega⟩ :=
    Fin.ext (src_low _ (by simp only; omega))
  have ed : (⟨(1024 + (h.val * 128 + d.val)) % 128, by omega⟩ : Fin 128) = d := Fin.ext (by simp only; omega)
  simp only [ec, ed, es, proj_tok]
  congr 1
  funext e
  refine (V25_k m c _ (by simp only; omega) (by simp only; omega)).trans (congrArg _ ?_)
  exact congrArg (ix2 0) (Fin.ext (by simp only; omega))

/-- The values. -/
theorem out_v (h : Fin 8) (d : Fin 128) : stored m c (tok b l) ⟨2048 + (h * 128 + d), by omega⟩
    = ProjRefIdeal.Read.val_main_v24 (F := Ideal) (X m c) (G m c) (W m c) (ix4 b l h d) := by
  rw [InProj.Ref.v24, stored_raw m c _ _ (by simp only; omega) (by simp only; omega), proj_tok]
  congr 1
  exact Fin.ext (src_low _ (by simp only; omega))

/-- The channels the short convolution runs over. -/
theorem out_xc (n : Fin 3072) : stored m c (tok b l) ⟨3072 + n, by omega⟩
    = ProjRefIdeal.Read.val_main_v56 (F := Ideal) (X m c) (G m c) (W m c) (ix3 b l n) := by
  rw [InProj.Ref.v56, stored_raw m c _ _ (by simp only; omega) (by simp only; omega), proj_tok]
  congr 1
  exact Fin.ext ((src_mid _ (by simp only; omega) (by simp only; omega)).trans (by simp only; omega))

/-- The channels of the last three tokens. -/
theorem out_conv (w : Fin 3) (n : Fin 3072) : stored m c (tok b ⟨2045 + w, by omega⟩) ⟨3072 + n, by omega⟩
    = ProjRefIdeal.Read.val_main_v59 (F := Ideal) (X m c) (G m c) (W m c) (ix3 b w n) := by
  rw [InProj.Ref.v59, out_xc, InProj.Ref.v56]

/-- The output gate's arguments. -/
theorem out_z (h : Fin 8) (d : Fin 128) : stored m c (tok b l) ⟨6144 + (h * 128 + d), by omega⟩
    = ProjRefIdeal.Read.val_main_v80 (F := Ideal) (X m c) (G m c) (W m c) (ix4 b l h d) := by
  rw [InProj.Ref.v80, stored_raw m c _ _ (by simp only; omega) (by simp only; omega), proj_tok]
  congr 1
  exact Fin.ext ((src_high _ (by simp only; omega) (by simp only; omega)).trans (by simp only; omega))

/-- The first branch's gate. -/
theorem out_ga (n : Fin 2048) : stored m c (tok b l) ⟨7168 + n, by omega⟩
    = ProjRefIdeal.Read.val_main_v87 (F := Ideal) (X m c) (G m c) (W m c) (ix3 b l n) := by
  rw [InProj.Ref.v87, stored_gate m c _ _ (by simp only; omega) (by simp only; omega), proj_tok]
  congr 2
  exact Fin.ext ((src_high _ (by simp only; omega) (by simp only; omega)).trans (by simp only; omega))

/-- The second branch's gate. -/
theorem out_gb (n : Fin 2048) : stored m c (tok b l) ⟨9216 + n, by omega⟩
    = ProjRefIdeal.Read.val_main_v94 (F := Ideal) (X m c) (G m c) (W m c) (ix3 b l n) := by
  rw [InProj.Ref.v94, stored_gate m c _ _ (by simp only; omega) (by simp only; omega), proj_tok]
  congr 2
  exact Fin.ext ((src_high _ (by simp only; omega) (by simp only; omega)).trans (by simp only; omega))

/-- The forget gate's logarithm. -/
theorem out_logf (h : Fin 8) : stored m c (tok b l) ⟨11264 + h, by omega⟩
    = ProjRefIdeal.Read.val_main_v29 (F := Ideal) (X m c) (G m c) (W m c) (Fb m c) (ix3 b l h) := by
  rw [InProj.Ref.v29, ← proj_tok, ← stored_f]
  exact congrArg _ (Fin.ext (by simp only; omega))

/-- The decay's logarithm. -/
theorem out_decay (h : Fin 8) : stored m c (tok b l) ⟨11272 + h, by omega⟩
    = ProjRefIdeal.Read.val_main_v72 (F := Ideal) (X m c) (G m c) (W m c) (Al m c) (Dt m c) (ix3 b l h) := by
  rw [InProj.Ref.v72, ← proj_tok, ← stored_g]
  exact congrArg _ (Fin.ext (by simp only; omega))

/-- The write strength. -/
theorem out_beta (h : Fin 8) : stored m c (tok b l) ⟨11280 + h, by omega⟩
    = ProjRefIdeal.Read.val_main_v78 (F := Ideal) (X m c) (G m c) (W m c) (ix3 b l h) := by
  rw [InProj.Ref.v78, ← proj_tok, ← stored_b]
  exact congrArg _ (Fin.ext (by simp only; omega))

end Cert.ProjIdeal.Step
end
-- ==== Proof.Proj.Results.lean ====
module

public import proofs.«01_k».proof.Proof.Proj.Final
public import Idealize.ShloMosaic.Lib.Claim

@[expose] public section

set_option maxRecDepth 16384

noncomputable section

namespace Cert.ProjIdeal.Step

open Idealize.ShloMosaic Idealize.ShloMosaic.TcCoe Idealize.SL.Sem
open Idealize.ShloMosaic.Pipeline (Dat)
open Cert.ProjIdeal Cert.ProjIdeal.Gen Cert.InProj

variable (m : (ℓ : Loc nD τ sig) → Buf (Elt Ideal) ℓ) (c : Dev nD)

/-- The buffers' contents after the operations that follow the call. -/
abbrev tail (b : Ref sig .tc) := Pipeline.afterTail₀ cfgs (dats m) 0 (V0 m) [hostOps1] c b

/-- The buffers' contents when the call ends. -/
abbrev exitW := Pipeline.withArrays (cfgs 0).spec c (V0 m c) fun w => (dats m 0 c).arrAt w (cfgs 0).N

/-- The call's result, by row and column. -/
theorem exit_P : exitW m c (Proc.devRef .tc main_v36) = fun i : S16384x11776.Idx => stored m c (i 0) (i 1) :=
  (Pipeline.withArrays_arr (cfgs 0).spec (by decide) c (V0 m c) (fun w => (dats m 0 c).arrAt w (cfgs 0).N) 5).trans (final_5 m c)

theorem tail_eq (b : Ref sig .tc) : tail m c b = StableHlo.after hostOps1 (exitW m c) (Proc.devRef .tc b) := rfl

/-- The keys: the kernel's result is the reference's. -/
theorem tail_v38 : tail m c main_v38 = ProjRefIdeal.Read.val_main_v55 (F := Ideal) (X m c) (G m c) (W m c) (Kg m c) := by
  rw [tail_eq]
  generalize hE : exitW m c = E
  have hP := exit_P m c
  rw [hE] at hP
  after_results
  rw [hP]
  funext i
  idx_vars i
  pointwise
  refine Eq.trans ?_ (out_k m c i0 i1 i2 i3)
  exact congrArg₂ (stored m c) (Fin.ext (by (try simp only [tok]) <;> omega)) (Fin.ext (by (try simp only) <;> omega))

/-- The values: the kernel's result is the reference's. -/
theorem tail_v40 : tail m c main_v40 = ProjRefIdeal.Read.val_main_v24 (F := Ideal) (X m c) (G m c) (W m c) := by
  rw [tail_eq]
  generalize hE : exitW m c = E
  have hP := exit_P m c
  rw [hE] at hP
  after_results
  rw [hP]
  funext i
  idx_vars i
  pointwise
  refine Eq.trans ?_ (out_v m c i0 i1 i2 i3)
  exact congrArg₂ (stored m c) (Fin.ext (by (try simp only [tok]) <;> omega)) (Fin.ext (by (try simp only) <;> omega))

/-- The forget gate's logarithm: the kernel's result is the reference's. -/
theorem tail_v42 : tail m c main_v42 = ProjRefIdeal.Read.val_main_v29 (F := Ideal) (X m c) (G m c) (W m c) (Fb m c) := by
  rw [tail_eq]
  generalize hE : exitW m c = E
  have hP := exit_P m c
  rw [hE] at hP
  after_results
  rw [hP]
  funext i
  idx_vars i
  pointwise
  refine Eq.trans ?_ (out_logf m c i0 i1 i2)
  exact congrArg₂ (stored m c) (Fin.ext (by (try simp only [tok]) <;> omega)) (Fin.ext (by (try simp only) <;> omega))

/-- The channels of the last three tokens: the kernel's result is the reference's. -/
theorem tail_v45 : tail m c main_v45 = ProjRefIdeal.Read.val_main_v59 (F := Ideal) (X m c) (G m c) (W m c) := by
  rw [tail_eq]
  generalize hE : exitW m c = E
  have hP := exit_P m c
  rw [hE] at hP
  after_results
  rw [hP]
  funext i
  idx_vars i
  pointwise
  refine Eq.trans ?_ (out_conv m c i0 i1 i2)
  exact congrArg₂ (stored m c) (Fin.ext (by (try simp only [tok]) <;> omega)) (Fin.ext (by (try simp only) <;> omega))

/-- The queries: the kernel's result is the reference's. -/
theorem tail_v47 : tail m c main_v47 = ProjRefIdeal.Read.val_main_v42 (F := Ideal) (X m c) (G m c) (W m c) (Qg m c) := by
  rw [tail_eq]
  generalize hE : exitW m c = E
  have hP := exit_P m c
  rw [hE] at hP
  after_results
  rw [hP]
  funext i
  idx_vars i
  pointwise
  refine Eq.trans ?_ (out_q m c i0 i1 i2 i3)
  exact congrArg₂ (stored m c) (Fin.ext (by (try simp only [tok]) <;> omega)) (Fin.ext (by (try simp only) <;> omega))

/-- The channels: the kernel's result is the reference's. -/
theorem tail_v49 : tail m c main_v49 = ProjRefIdeal.Read.val_main_v56 (F := Ideal) (X m c) (G m c) (W m c) := by
  rw [tail_eq]
  generalize hE : exitW m c = E
  have hP := exit_P m c
  rw [hE] at hP
  after_results
  rw [hP]
  funext i
  idx_vars i
  pointwise
  refine Eq.trans ?_ (out_xc m c i0 i1 i2)
  exact congrArg₂ (stored m c) (Fin.ext (by (try simp only [tok]) <;> omega)) (Fin.ext (by (try simp only) <;> omega))

/-- The output gate's arguments: the kernel's result is the reference's. -/
theorem tail_v51 : tail m c main_v51 = ProjRefIdeal.Read.val_main_v80 (F := Ideal) (X m c) (G m c) (W m c) := by
  rw [tail_eq]
  generalize hE : exitW m c = E
  have hP := exit_P m c
  rw [hE] at hP
  after_results
  rw [hP]
  funext i
  idx_vars i
  pointwise
  refine Eq.trans ?_ (out_z m c i0 i1 i2 i3)
  exact congrArg₂ (stored m c) (Fin.ext (by (try simp only [tok]) <;> omega)) (Fin.ext (by (try simp only) <;> omega))

/-- The first branch's gate: the kernel's result is the reference's. -/
theorem tail_v53 : tail m c main_v53 = ProjRefIdeal.Read.val_main_v87 (F := Ideal) (X m c) (G m c) (W m c) := by
  rw [tail_eq]
  generalize hE : exitW m c = E
  have hP := exit_P m c
  rw [hE] at hP
  after_results
  rw [hP]
  funext i
  idx_vars i
  pointwise
  refine Eq.trans ?_ (out_ga m c i0 i1 i2)
  exact congrArg₂ (stored m c) (Fin.ext (by (try simp only [tok]) <;> omega)) (Fin.ext (by (try simp only) <;> omega))

/-- The second branch's gate: the kernel's result is the reference's. -/
theorem tail_v55 : tail m c main_v55 = ProjRefIdeal.Read.val_main_v94 (F := Ideal) (X m c) (G m c) (W m c) := by
  rw [tail_eq]
  generalize hE : exitW m c = E
  have hP := exit_P m c
  rw [hE] at hP
  after_results
  rw [hP]
  funext i
  idx_vars i
  pointwise
  refine Eq.trans ?_ (out_gb m c i0 i1 i2)
  exact congrArg₂ (stored m c) (Fin.ext (by (try simp only [tok]) <;> omega)) (Fin.ext (by (try simp only) <;> omega))

/-- The decay's logarithm: the kernel's result is the reference's. -/
theorem tail_v57 : tail m c main_v57 = ProjRefIdeal.Read.val_main_v72 (F := Ideal) (X m c) (G m c) (W m c) (Al m c) (Dt m c) := by
  rw [tail_eq]
  generalize hE : exitW m c = E
  have hP := exit_P m c
  rw [hE] at hP
  after_results
  rw [hP]
  funext i
  idx_vars i
  pointwise
  refine Eq.trans ?_ (out_decay m c i0 i1 i2)
  exact congrArg₂ (stored m c) (Fin.ext (by (try simp only [tok]) <;> omega)) (Fin.ext (by (try simp only) <;> omega))

/-- The write strength: the kernel's result is the reference's. -/
theorem tail_v59 : tail m c main_v59 = ProjRefIdeal.Read.val_main_v78 (F := Ideal) (X m c) (G m c) (W m c) := by
  rw [tail_eq]
  generalize hE : exitW m c = E
  have hP := exit_P m c
  rw [hE] at hP
  after_results
  rw [hP]
  funext i
  idx_vars i
  pointwise
  refine Eq.trans ?_ (out_beta m c i0 i1 i2)
  exact congrArg₂ (stored m c) (Fin.ext (by (try simp only [tok]) <;> omega)) (Fin.ext (by (try simp only) <;> omega))

/-- Every run of the projection ends with the reference's results in the kernel's result arrays, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v38) = ProjRefIdeal.Read.val_main_v55 (F := Ideal) (X m c) (G m c) (W m c) (Kg m c) ∧
      r.2.mem ((c.tc : Thread nD τ).loc main_v40) = ProjRefIdeal.Read.val_main_v24 (F := Ideal) (X m c) (G m c) (W m c) ∧
      r.2.mem ((c.tc : Thread nD τ).loc main_v42) = ProjRefIdeal.Read.val_main_v29 (F := Ideal) (X m c) (G m c) (W m c) (Fb m c) ∧
      r.2.mem ((c.tc : Thread nD τ).loc main_v45) = ProjRefIdeal.Read.val_main_v59 (F := Ideal) (X m c) (G m c) (W m c) ∧
      r.2.mem ((c.tc : Thread nD τ).loc main_v47) = ProjRefIdeal.Read.val_main_v42 (F := Ideal) (X m c) (G m c) (W m c) (Qg m c) ∧
      r.2.mem ((c.tc : Thread nD τ).loc main_v49) = ProjRefIdeal.Read.val_main_v56 (F := Ideal) (X m c) (G m c) (W m c) ∧
      r.2.mem ((c.tc : Thread nD τ).loc main_v51) = ProjRefIdeal.Read.val_main_v80 (F := Ideal) (X m c) (G m c) (W m c) ∧
      r.2.mem ((c.tc : Thread nD τ).loc main_v53) = ProjRefIdeal.Read.val_main_v87 (F := Ideal) (X m c) (G m c) (W m c) ∧
      r.2.mem ((c.tc : Thread nD τ).loc main_v55) = ProjRefIdeal.Read.val_main_v94 (F := Ideal) (X m c) (G m c) (W m c) ∧
      r.2.mem ((c.tc : Thread nD τ).loc main_v57) = ProjRefIdeal.Read.val_main_v72 (F := Ideal) (X m c) (G m c) (W m c) (Al m c) (Dt m c) ∧
      r.2.mem ((c.tc : Thread nD τ).loc main_v59) = ProjRefIdeal.Read.val_main_v78 (F := Ideal) (X m c) (G m c) (W m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨((h.2 c).2 _ (by decide)).trans (tail_v38 m c),
    ((h.2 c).2 _ (by decide)).trans (tail_v40 m c),
    ((h.2 c).2 _ (by decide)).trans (tail_v42 m c),
    ((h.2 c).2 _ (by decide)).trans (tail_v45 m c),
    ((h.2 c).2 _ (by decide)).trans (tail_v47 m c),
    ((h.2 c).2 _ (by decide)).trans (tail_v49 m c),
    ((h.2 c).2 _ (by decide)).trans (tail_v51 m c),
    ((h.2 c).2 _ (by decide)).trans (tail_v53 m c),
    ((h.2 c).2 _ (by decide)).trans (tail_v55 m c),
    ((h.2 c).2 _ (by decide)).trans (tail_v57 m c),
    ((h.2 c).2 _ (by decide)).trans (tail_v59 m c),
    h.1.1 c⟩) (θ_run_and (frame m ρ) (run_main m ρ))

end Cert.ProjIdeal.Step
end
-- ==== Proof.ProjSample.Ref.lean ====
/- The reference of the sampled tokens' input projection, read at an index: each of its results is a function of Math.lean of one token's row and
   a column of the weights. -/
module

public import proofs.«01_k».proof.Proof.Gen.ProjSampleRefIdeal.Read
public import proofs.«01_k».proof.Proof.Proj.Math

@[expose] public section

set_option maxRecDepth 16384

noncomputable section

open Idealize.ShloMosaic Idealize.ShloMosaic.TcCoe Idealize.SL.Sem

namespace Cert.InProjSample.Ref

open Cert.InProj Cert.ProjSampleRefIdeal Cert.ProjSampleRefIdeal.Gen Cert.ProjSampleRefIdeal.Read

variable (X : FVec Ideal S32x1x2048 .f32) (G : FVec Ideal S1x2048 .f32) (W : FVec Ideal S1x2048x11288 .f32)
  (Fb : FVec Ideal S1x8 .f32) (Qg Kg : FVec Ideal S1x128 .f32) (Al Dt : FVec Ideal S1x8 .f32)

/-- The normalised row. -/
theorem v13 (b : Fin 32) (k : Fin 2048) : val_main_v13 (F := Ideal) X G (ix3 b 0 k)
    = normRow (fun i => X (ix3 b 0 i)) (fun i => G (ix2 0 i)) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Column `n` of the token of sequence `b`. -/
def proj (b : Fin 32) (n : Fin 11288) : EReal :=
  dotCol (normRow (fun i => X (ix3 b 0 i)) (fun i => G (ix2 0 i))) (fun k => W (ix3 0 k n))

/-- The projection. -/
theorem v15 (b : Fin 32) (n : Fin 11288) : val_main_v15 (F := Ideal) X G W (ix3 b 0 n) = proj X G W b n := by
  pointwise [val_main_v15, val_main_v14]
  simp only [v13]
  rfl

/-- The forget gate's log. -/
theorem v29 (b : Fin 32) (h : Fin 8) : val_main_v29 (F := Ideal) X G W Fb (ix3 b 0 h)
    = logSig (proj X G W b ⟨3072 + h, by omega⟩ + Fb (ix2 0 h)) := by
  pointwise [val_main_v29, val_main_v28, val_main_v27, val_main_v26, val_main_v25, val_main_v16, val_main_call0_v0, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  simp only [v15]
  refine (congrArg (fun z : EReal => -z) (if_neg (fun h => h rfl))).trans ?_
  unfold logSig
  rw [← tail_neg]
  rfl

/-- The heads' queries. -/
theorem v42 (b : Fin 32) (h : Fin 8) (d : Fin 128) : val_main_v42 (F := Ideal) X G W Qg (ix4 b 0 h d)
    = normHead (fun e => proj X G W b ⟨h * 128 + e, by omega⟩) (fun e => Qg (ix2 0 e)) d := by
  pointwise [val_main_v42, val_main_v41, val_main_v40, val_main_v39, val_main_v38, val_main_v37, val_main_v36, val_main_v35, val_main_v34, val_main_v33, val_main_v32, val_main_v31, val_main_v30, val_main_v20, val_main_v19, val_main_v17, val_main_cst_2, val_main_cst_3, val_main_cst_4]
  simp only [v15]
  rfl

/-- The heads' keys. -/
theorem v55 (b : Fin 32) (h : Fin 8) (d : Fin 128) : val_main_v55 (F := Ideal) X G W Kg (ix4 b 0 h d)
    = normHead (fun e => proj X G W b ⟨1024 + (h * 128 + e), by omega⟩) (fun e => Kg (ix2 0 e)) d := by
  pointwise [val_main_v55, val_main_v54, val_main_v53, val_main_v52, val_main_v51, val_main_v50, val_main_v49, val_main_v48, val_main_v47, val_main_v46, val_main_v45, val_main_v44, val_main_v43, val_main_v22, val_main_v21, val_main_v18, val_main_cst_5, val_main_cst_6, val_main_cst_7]
  simp only [v15]
  rfl

/-- The heads' values. -/
theorem v24 (b : Fin 32) (h : Fin 8) (d : Fin 128) : val_main_v24 (F := Ideal) X G W (ix4 b 0 h d)
    = proj X G W b ⟨2048 + (h * 128 + d), by omega⟩ := by
  pointwise [val_main_v24, val_main_v23]
  simp only [v15]

/-- The channels of the convolution. -/
theorem v56 (b : Fin 32) (ch : Fin 3072) : val_main_v56 (F := Ideal) X G W (ix3 b 0 ch)
    = proj X G W b ⟨3080 + ch, by omega⟩ := by
  pointwise [val_main_v56]
  simp only [v15]

/-- The log decay. -/
theorem v69 (b : Fin 32) (h : Fin 8) : val_main_v69 (F := Ideal) X G W Al Dt (ix3 b 0 h)
    = -Ideal.exp (Al (ix2 0 h)) * softplus (proj X G W b ⟨6152 + h, by omega⟩ + Dt (ix2 0 h)) := by
  pointwise [val_main_v69, val_main_v68, val_main_v67, val_main_v66, val_main_v65, val_main_v64, val_main_v63, val_main_v62, val_main_v61, val_main_v60, val_main_v59, val_main_v57, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
  simp only [v15]
  refine (congrArg (fun z : EReal => -Ideal.exp (Al (ix2 0 h)) * z) (if_neg (fun h => h rfl))).trans ?_
  rfl

/-- The step size. -/
theorem v75 (b : Fin 32) (h : Fin 8) : val_main_v75 (F := Ideal) X G W (ix3 b 0 h)
    = sigm (proj X G W b ⟨6160 + h, by omega⟩) := by
  pointwise [val_main_v75, val_main_v74, val_main_v73, val_main_v72, val_main_v71, val_main_v70, val_main_v58, val_main_cst_8, val_main_cst_9]
  simp only [v15]
  rfl

/-- The output gate's logits. -/
theorem v77 (b : Fin 32) (h : Fin 8) (d : Fin 128) : val_main_v77 (F := Ideal) X G W (ix4 b 0 h d)
    = proj X G W b ⟨6168 + (h * 128 + d), by omega⟩ := by
  pointwise [val_main_v77, val_main_v76]
  simp only [v15]

/-- The attention branch's gate. -/
theorem v84 (b : Fin 32) (n : Fin 2048) : val_main_v84 (F := Ideal) X G W (ix3 b 0 n)
    = sigm (proj X G W b ⟨7192 + n, by omega⟩) := by
  pointwise [val_main_v84, val_main_v83, val_main_v82, val_main_v81, val_main_v80, val_main_v79, val_main_v78, val_main_cst_10, val_main_cst_11]
  simp only [v15]
  rfl

/-- The gated DeltaNet branch's gate. -/
theorem v91 (b : Fin 32) (n : Fin 2048) : val_main_v91 (F := Ideal) X G W (ix3 b 0 n)
    = sigm (proj X G W b ⟨9240 + n, by omega⟩) := by
  pointwise [val_main_v91, val_main_v90, val_main_v89, val_main_v88, val_main_v87, val_main_v86, val_main_v85, val_main_cst_12, val_main_cst_13]
  simp only [v15]
  rfl

end Cert.InProjSample.Ref

end
-- ==== Proof.ProjSample.Blocks.lean ====
/- The blocks the sampled tokens' input projection kernel reads at a grid point (a tile of 32 tokens by 512 columns), as the arguments. -/
module
public import proofs.«01_k».proof.Proof.Gen.ProjSampleIdeal.Frame
public import proofs.«01_k».proof.Proof.ProjSample.Ref
public import proofs.«01_k».proof.Proof.Proj.Pay
public import Idealize.ShloMosaic.Lib.Pipeline.ValueKit
public import Idealize.ShloMosaic.Lib.Pipeline.Value
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjSampleIdeal.Step
open Cert.ProjSampleIdeal Cert.ProjSampleIdeal.Gen
open Cert.ProjIdeal.Step (small src src_low src_mid src_high src_f src_gb lane8 lane8' lane16 lane16')
variable (m : (ℓ : Loc nD τ sig) → Buf (Elt Ideal) ℓ)

/-- Every window's block index at every grid point. -/
theorem idx_val : ∀ t : Fin cfg0.N, win0_0.index t = ![t.val / 23, 0]
    ∧ win0_1.index t = ![0, 0]
    ∧ win0_2.index t = ![0, t.val % 23]
    ∧ win0_3.index t = ![0, t.val % 23]
    ∧ win0_4.index t = ![0, 0]
    ∧ win0_5.index t = ![t.val / 23, t.val % 23] :=
  (by decide +kernel : ∀ t : Fin grid0.N, _)

/-- The grid has 23 points. -/
theorem point_lt (t : Fin cfg0.N) : t.val < 23 := t.isLt

variable (c : Dev nD) (t : Fin cfg0.N)

/-- The kernel's arguments. -/
abbrev X := m ((c : Thread nD τ).loc main_arg0)
abbrev G := m ((c : Thread nD τ).loc main_arg1)
abbrev W := m ((c : Thread nD τ).loc main_arg2)
abbrev Fb := m ((c : Thread nD τ).loc main_arg3)
abbrev Qg := m ((c : Thread nD τ).loc main_arg4)
abbrev Kg := m ((c : Thread nD τ).loc main_arg5)
abbrev Al := m ((c : Thread nD τ).loc main_arg6)
abbrev Dt := m ((c : Thread nD τ).loc main_arg7)

set_option maxHeartbeats 1000000

/-! ## What the host operations before the call leave -/

/-- The chip's buffers after the first stretch of host operations. -/
def U1 : Valuation τ sig (Elt Ideal) := StableHlo.after hostOps0 (fun b => m (c, b))
/-- The chip's buffers after the small weight columns are padded. -/
def U2 : Valuation τ sig (Elt Ideal) := StableHlo.after hostOps0_1 (U1 m c)
/-- The chip's buffers after the weights and gains are packed. -/
def U3 : Valuation τ sig (Elt Ideal) := StableHlo.after hostOps0_2 (U2 m c)
/-- The chip's buffers after the per-head parameters are padded. -/
def U4 : Valuation τ sig (Elt Ideal) := StableHlo.after hostOps0_3 (U3 m c)
theorem V0_eq : V0 m c = StableHlo.after hostOps0_4 (U4 m c) := rfl

theorem U2_v1 : U2 m c (Proc.devRef .tc main_v1) = U1 m c (Proc.devRef .tc main_v1) := by
  unfold U2; after_results
theorem U2_v2 : U2 m c (Proc.devRef .tc main_v2) = U1 m c (Proc.devRef .tc main_v2) := by
  unfold U2; after_results
theorem U2_v3 : U2 m c (Proc.devRef .tc main_v3) = U1 m c (Proc.devRef .tc main_v3) := by
  unfold U2; after_results
theorem U2_v4 : U2 m c (Proc.devRef .tc main_v4) = U1 m c (Proc.devRef .tc main_v4) := by
  unfold U2; after_results
theorem U2_v5 : U2 m c (Proc.devRef .tc main_v5) = U1 m c (Proc.devRef .tc main_v5) := by
  unfold U2; after_results
theorem U2_v6 : U2 m c (Proc.devRef .tc main_v6) = U1 m c (Proc.devRef .tc main_v6) := by
  unfold U2; after_results

theorem U2_W (k : Fin 2048) (n : Fin 11288) : U2 m c (Proc.devRef .tc main_v1) (ix2 k n) = W m c (ix3 0 k n) := by
  rw [U2_v1]; unfold U1; after_results; pointwise
theorem U2_Fb (n : Fin 8) : U2 m c (Proc.devRef .tc main_v2) (ix1 n) = Fb m c (ix2 0 n) := by
  rw [U2_v2]; unfold U1; after_results; pointwise
theorem U2_Qg (n : Fin 128) : U2 m c (Proc.devRef .tc main_v3) (ix1 n) = Qg m c (ix2 0 n) := by
  rw [U2_v3]; unfold U1; after_results; pointwise
theorem U2_Kg (n : Fin 128) : U2 m c (Proc.devRef .tc main_v4) (ix1 n) = Kg m c (ix2 0 n) := by
  rw [U2_v4]; unfold U1; after_results; pointwise
theorem U2_Al (n : Fin 8) : U2 m c (Proc.devRef .tc main_v5) (ix1 n) = Al m c (ix2 0 n) := by
  rw [U2_v5]; unfold U1; after_results; pointwise
theorem U2_Dt (n : Fin 8) : U2 m c (Proc.devRef .tc main_v6) (ix1 n) = Dt m c (ix2 0 n) := by
  rw [U2_v6]; unfold U1; after_results; pointwise

/-- An entry of the weights, by its column's number. -/
theorem W_congr (k : Fin 2048) {a b : Fin 11288} (h : a.val = b.val) : W m c (ix3 0 k a) = W m c (ix3 0 k b) := by
  rw [Fin.ext h]

theorem U1_v10 (k : Fin 2048) (n : Fin 24) : U1 m c (Proc.devRef .tc main_v10) (ix2 k n)
    = W m c (ix3 0 k (small n n.isLt)) := by
  unfold U1; after_results; pointwise; after_results_simp
  pointwise
  split
  · exact W_congr m c k (by simp only [small]; split_ifs <;> omega)
  · split
    · exact W_congr m c k (by simp only [small]; split_ifs <;> omega)
    · exact W_congr m c k (by simp only [small]; split_ifs <;> omega)

theorem U2_v11' : U2 m c (Proc.devRef .tc main_v11) = pad (α := EReal) S2048x512 ![0, 0] ![0, 488] ![0, 0]
    (U1 m c (Proc.devRef .tc main_v10) : S2048x24.Idx → EReal)
    (sitofp (F := Ideal) .f32 (U1 m c (Proc.devRef .tc main_c) : S_.Idx → BitVec 32)) pads_S2048x24_S2048x512_000_04880 h_S_ := by
  unfold U2; after_results; rfl

/-- A packed small column lies in the unpadded part. -/
theorem pad_col (k : Fin 2048) (n : Fin 512) (hn : n.val < 24) : ∀ b : Fin 2, (![0, 0] : Fin 2 → Nat) b ≤ ((ix2 k n : S2048x512.Idx) b).val
      ∧ (((ix2 k n : S2048x512.Idx) b).val - (![0, 0] : Fin 2 → Nat) b) % ((![0, 0] : Fin 2 → Nat) b + 1) = 0
      ∧ (((ix2 k n : S2048x512.Idx) b).val - (![0, 0] : Fin 2 → Nat) b) / ((![0, 0] : Fin 2 → Nat) b + 1) < S2048x24.size b := by
  refine Fin.forall_fin_two.2 ⟨⟨Nat.zero_le _, Nat.mod_one _, ?_⟩, ⟨Nat.zero_le _, Nat.mod_one _, ?_⟩⟩
  · show (k.val - 0) / 1 < 2048; omega
  · show (n.val - 0) / 1 < 24; omega

theorem U2_v11 (k : Fin 2048) (n : Fin 512) (hn : n.val < 24) : U2 m c (Proc.devRef .tc main_v11) (ix2 k n)
    = W m c (ix3 0 k (small n hn)) := by
  rw [U2_v11', ← U1_v10 m c k ⟨n, hn⟩]
  pointwise
  exact dif_pos (pad_col k n hn)

theorem U3_v16 (k : Fin 2048) (n : Fin 11776) (hn : n.val < 11288) :
    U3 m c (Proc.devRef .tc main_v16) (ix2 k n) = W m c (ix3 0 k (src n)) := by
  unfold U3; after_results; pointwise; after_results_simp
  pointwise
  split
  · rw [U2_W]; exact W_congr m c k (by simp only [src]; split_ifs <;> omega)
  · split
    · rw [U2_W]; exact W_congr m c k (by simp only [src]; split_ifs <;> omega)
    · split
      · rw [U2_W]; exact W_congr m c k (by simp only [src]; split_ifs <;> omega)
      · rw [U2_v11 m c _ _ (by simp only; omega)]
        exact W_congr m c k (by simp only [src, small]; split_ifs <;> omega)

theorem U3_v25_q (n : Fin 11776) (hn : n.val < 1024) :
    U3 m c (Proc.devRef .tc main_v25) (ix2 0 n) = Qg m c (ix2 0 ⟨n % 128, by omega⟩) := by
  unfold U3; after_results; pointwise; after_results_simp
  pointwise
  rw [dif_pos hn, U2_Qg]
theorem U3_v25_k (n : Fin 11776) (hn : 1024 ≤ n.val) (hn' : n.val < 2048) :
    U3 m c (Proc.devRef .tc main_v25) (ix2 0 n) = Kg m c (ix2 0 ⟨n % 128, by omega⟩) := by
  unfold U3; after_results; pointwise; after_results_simp
  pointwise
  rw [dif_neg (by omega), dif_pos (by omega), U2_Kg]
  exact congrArg _ (by congr 1; exact Fin.ext (by simp only; omega))

theorem U4_v33' : U4 m c (Proc.devRef .tc main_v33) = pad (α := EReal) S8x128 ![0, 0] ![6, 0] ![0, 0]
    (U3 m c (Proc.devRef .tc main_v32) : S2x128.Idx → EReal)
    (sitofp (F := Ideal) .f32 (U3 m c (Proc.devRef .tc main_c_2) : S_.Idx → BitVec 32)) pads_S2x128_S8x128_060_000 h_S_ := by
  unfold U4; after_results; rfl

/-- A row of the parameters lies in the unpadded part. -/
theorem pad_row (a : Fin 2) (n : Fin 128) : ∀ b : Fin 2, (![0, 0] : Fin 2 → Nat) b ≤ ((ix2 (⟨a, by omega⟩ : Fin 8) n : S8x128.Idx) b).val
      ∧ (((ix2 (⟨a, by omega⟩ : Fin 8) n : S8x128.Idx) b).val - (![0, 0] : Fin 2 → Nat) b) % ((![0, 0] : Fin 2 → Nat) b + 1) = 0
      ∧ (((ix2 (⟨a, by omega⟩ : Fin 8) n : S8x128.Idx) b).val - (![0, 0] : Fin 2 → Nat) b) / ((![0, 0] : Fin 2 → Nat) b + 1) < S2x128.size b := by
  refine Fin.forall_fin_two.2 ⟨⟨Nat.zero_le _, Nat.mod_one _, ?_⟩, ⟨Nat.zero_le _, Nat.mod_one _, ?_⟩⟩
  · show (a.val - 0) / 1 < 2; omega
  · show (n.val - 0) / 1 < 128; omega

/-- The first parameter row: the forget bias, then the step bias. -/
theorem V33_f (n : Fin 128) (h : n.val < 8) : V m c main_v33 (ix2 0 n) = Fb m c (ix2 0 ⟨n, h⟩) := by
  show V0 m c (Proc.devRef .tc main_v33) (ix2 0 n) = _
  rw [V0_eq]; after_results
  rw [U4_v33']
  pointwise
  unfold U3; after_results; pointwise; after_results_simp
  pointwise
  refine (dif_pos (pad_row 0 n)).trans ?_
  rw [dif_pos h, U2_Fb]
theorem V33_d (n : Fin 128) (h : 8 ≤ n.val) (h' : n.val < 16) : V m c main_v33 (ix2 0 n) = Dt m c (ix2 0 ⟨n - 8, by omega⟩) := by
  show V0 m c (Proc.devRef .tc main_v33) (ix2 0 n) = _
  rw [V0_eq]; after_results
  rw [U4_v33']
  pointwise
  unfold U3; after_results; pointwise; after_results_simp
  pointwise
  refine (dif_pos (pad_row 0 n)).trans ?_
  rw [dif_neg (by omega), dif_pos (by omega), U2_Dt]
/-- The second parameter row: the decay's logarithm, in its eight lanes. -/
theorem V33_a (n : Fin 128) (h : 8 ≤ n.val) (h' : n.val < 16) : V m c main_v33 (ix2 1 n) = Al m c (ix2 0 ⟨n - 8, by omega⟩) := by
  show V0 m c (Proc.devRef .tc main_v33) (ix2 1 n) = _
  rw [V0_eq]; after_results
  rw [U4_v33']
  pointwise
  unfold U3; after_results; pointwise; after_results_simp
  pointwise
  refine (dif_pos (pad_row 1 n)).trans ?_
  rw [dif_neg (by omega), dif_pos (by omega), U2_Al]

theorem V33_z (n : Fin 128) (h : 16 ≤ n.val) : V m c main_v33 (ix2 0 n) = (0 : EReal) := by
  show V0 m c (Proc.devRef .tc main_v33) (ix2 0 n) = _
  rw [V0_eq]; after_results
  rw [U4_v33']
  pointwise
  unfold U3; after_results; pointwise; after_results_simp
  pointwise
  refine (dif_pos (pad_row 0 n)).trans ?_
  rw [dif_neg (by omega), dif_neg (by omega)]

theorem V25_q (n : Fin 11776) (hn : n.val < 1024) : V m c main_v25 (ix2 0 n) = Qg m c (ix2 0 ⟨n % 128, by omega⟩) := by
  rw [← U3_v25_q m c n hn]
  show V0 m c (Proc.devRef .tc main_v25) (ix2 0 n) = _
  rw [V0_eq]; unfold U4; after_results
theorem V25_k (n : Fin 11776) (hn : 1024 ≤ n.val) (hn' : n.val < 2048) :
    V m c main_v25 (ix2 0 n) = Kg m c (ix2 0 ⟨n % 128, by omega⟩) := by
  rw [← U3_v25_k m c n hn hn']
  show V0 m c (Proc.devRef .tc main_v25) (ix2 0 n) = _
  rw [V0_eq]; unfold U4; after_results
theorem V16 (k : Fin 2048) (n : Fin 11776) (hn : n.val < 11288) : V m c main_v16 (ix2 k n) = W m c (ix3 0 k (src n)) := by
  rw [← U3_v16 m c k n hn]
  show V0 m c (Proc.devRef .tc main_v16) (ix2 k n) = _
  rw [V0_eq]; unfold U4; after_results
theorem V34 (k : Fin 2048) : V m c main_v34 (ix2 0 k) = G m c (ix2 0 k) := by
  unfold V V0
  simp only [List.flatten_cons, List.flatten_nil, List.append_nil, List.cons_append, List.nil_append]
  after_results_simp
  pointwise

theorem V35 (R : Fin 32) (k : Fin 2048) : V m c main_v35 (ix2 R k) = X m c (ix3 R 0 k) := by
  unfold V V0
  simp only [List.flatten_cons, List.flatten_nil, List.append_nil, List.cons_append, List.nil_append]
  after_results_simp
  pointwise

/-! ## The blocks of a grid point -/

theorem iblk0 (r : Fin 32) (k : Fin 2048) : iblk m c 0 t (ix2 r k)
    = V m c main_v35 (ix2 ⟨t.val / 23 * 32 + r, by have := point_lt t; omega⟩ k) := by
  blk_point [iblk, idx_val t]
theorem iblk1 (k : Fin 2048) : iblk m c 1 t (ix2 0 k) = V m c main_v34 (ix2 0 k) := by
  blk_point [iblk, idx_val t]
theorem iblk2 (k : Fin 2048) (n : Fin 512) : iblk m c 2 t (ix2 k n)
    = V m c main_v16 (ix2 k ⟨t.val % 23 * 512 + n, by omega⟩) := by
  blk_point [iblk, idx_val t]
theorem iblk3 (n : Fin 512) : iblk m c 3 t (ix2 0 n)
    = V m c main_v25 (ix2 0 ⟨t.val % 23 * 512 + n, by omega⟩) := by
  blk_point [iblk, idx_val t]
theorem iblk4 (a : Fin 8) (n : Fin 128) : iblk m c 4 t (ix2 a n) = V m c main_v33 (ix2 a n) := by
  blk_point [iblk, idx_val t]

/-- The token at row `r` of the point's tile. -/
def row (r : Fin 32) : Fin 32 := ⟨t.val / 23 * 32 + r, by have := point_lt t; omega⟩
/-- The column at lane `n` of the point's tile. -/
def col (n : Fin 512) : Fin 11776 := ⟨t.val % 23 * 512 + n, by omega⟩

/-- What the layer's projection is at a token and a column of the layer's weights. -/
abbrev proj (R : Fin 32) (n : Fin 11288) : EReal :=
  InProjSample.Ref.proj (X m c) (G m c) (W m c) R n

end Cert.ProjSampleIdeal.Step
end
-- ==== Proof.ProjSample.Pay.lean ====
/- What the sampled tokens' input projection kernel computes from its blocks, at an index. -/
module
public import proofs.«01_k».proof.Proof.ProjSample.Blocks
@[expose] public section
set_option maxRecDepth 16384
noncomputable section
open Idealize.ShloMosaic Idealize.ShloMosaic.TcCoe Idealize.SL.Sem
namespace Cert.ProjSampleIdeal.Step
open Cert.ProjSampleIdeal Cert.ProjSampleIdeal.Gen Cert.InProj
open Cert.ProjIdeal.Step (small src src_low src_mid src_high src_f src_gb lane8 lane8' lane16 lane16')

/-- The normalised tile: each row is the normalised token. -/
theorem pay1 (x : S32x2048.Idx → EReal) (g : S1x2048.Idx → EReal) (r : Fin 32) (k : Fin 2048) :
    k0_pay1 (F := Ideal) x g (ix2 r k) = normRow (fun i => x (ix2 r i)) (fun i => g (ix2 0 i)) k := by
  pointwise [k0_pay1]
  rfl

/-- The tile's product. -/
theorem pay2 (h : S32x2048.Idx → EReal) (w : S2048x512.Idx → EReal) (r : Fin 32) (n : Fin 512) :
    k0_pay2 (F := Ideal) h w (ix2 r n) = dotCol (fun k => h (ix2 r k)) (fun k => w (ix2 k n)) := by
  pointwise [k0_pay2]
  rfl

theorem pay5 (h : S32x2048.Idx → EReal) (w : S2048x512.Idx → EReal) (r : Fin 32) (n : Fin 512) :
    k0_pay5 (F := Ideal) h w (ix2 r n) = sigm (k0_pay2 (F := Ideal) h w (ix2 r n)) := by
  pointwise [k0_pay5]
  rw [zero_sub]; rfl

theorem pay7 (p : S32x512.Idx → EReal) (g : S1x128.Idx → EReal) (r : Fin 32) (d : Fin 128) :
    k0_pay7 (F := Ideal) p g (ix2 r d) = normHead (fun e => p (ix2 r ⟨e, by omega⟩)) (fun e => g (ix2 0 e)) d := by
  pointwise [k0_pay7]
  rfl

theorem pay8 (p : S32x512.Idx → EReal) (g : S1x128.Idx → EReal) (r : Fin 32) (d : Fin 128) :
    k0_pay8 (F := Ideal) p g (ix2 r d) = normHead (fun e => p (ix2 r ⟨128 + e, by omega⟩)) (fun e => g (ix2 0 e)) d := by
  pointwise [k0_pay8]
  rfl

theorem pay3 (p : S32x512.Idx → EReal) (g : S1x128.Idx → EReal) (r : Fin 32) (d : Fin 128) :
    k0_pay3 (F := Ideal) (k0_pay9 p) (k0_pay10 p) g (ix2 r d) = normHead (fun e => p (ix2 r ⟨256 + e, by omega⟩)) (fun e => g (ix2 0 e)) d := by
  pointwise [k0_pay3, k0_pay9, k0_pay10]
  rfl

theorem pay4 (h : S32x2048.Idx → EReal) (w : S2048x512.Idx → EReal) (g : S1x128.Idx → EReal) (r : Fin 32) (d : Fin 128) :
    k0_pay4 (F := Ideal) h w g (ix2 r d) = normHead (fun e => k0_pay2 (F := Ideal) h w (ix2 r ⟨384 + e, by omega⟩)) (fun e => g (ix2 0 e)) d := by
  pointwise [k0_pay4]
  rfl

/-- The first eight small lanes: the logarithm of the forget gate. -/
theorem pay11_f (p : S32x512.Idx → EReal) (a b : S1x128.Idx → EReal) (r : Fin 32) (d : Fin 128) (h : d.val < 8) :
    k0_pay11 (F := Ideal) p a b (ix2 r d) = logSig (p (ix2 r ⟨d, by omega⟩) + a (ix2 0 d)) := by
  pointwise [k0_pay11]
  rw [lane8 d h]
  simp only [zero_sub, Scalar.select]
  rfl

/-- The next eight: the decay's logarithm. -/
theorem pay11_g (p : S32x512.Idx → EReal) (a b : S1x128.Idx → EReal) (r : Fin 32) (d : Fin 128) (h : 8 ≤ d.val) (h' : d.val < 16) :
    k0_pay11 (F := Ideal) p a b (ix2 r d) = -Ideal.exp (b (ix2 0 d)) * softplus (p (ix2 r ⟨d, by omega⟩) + a (ix2 0 d)) := by
  pointwise [k0_pay11]
  rw [lane8' d (by omega), lane16 d h']
  simp only [zero_sub, Scalar.select]
  rfl

/-- The remaining lanes: the write strength. -/
theorem pay11_b (p : S32x512.Idx → EReal) (a b : S1x128.Idx → EReal) (r : Fin 32) (d : Fin 128) (h : 16 ≤ d.val) :
    k0_pay11 (F := Ideal) p a b (ix2 r d) = sigm (p (ix2 r ⟨d, by omega⟩) + a (ix2 0 d)) := by
  pointwise [k0_pay11]
  rw [lane8' d (by omega), lane16' d (by omega)]
  simp only [zero_sub, Scalar.select]
  rfl

end Cert.ProjSampleIdeal.Step
end
-- ==== Proof.ProjSample.Held.lean ====
/- The kernel keeps the tile's normalised tokens from a row of grid points' first point to its last. -/
module
public import proofs.«01_k».proof.Proof.ProjSample.Pay
public import Idealize.ShloMosaic.Lib.Pipeline.ValueKit.Held
@[expose] public section
set_option maxRecDepth 16384
noncomputable section
open Idealize.ShloMosaic Idealize.ShloMosaic.TcCoe Idealize.SL.Sem
namespace Cert.ProjSampleIdeal.Step
open Cert.ProjSampleIdeal Cert.ProjSampleIdeal.Gen Cert.InProj
open Cert.ProjIdeal.Step (small src src_low src_mid src_high src_f src_gb lane8 lane8' lane16 lane16')
variable (m : (ℓ : Loc nD τ sig) → Buf (Elt Ideal) ℓ) (c : Dev nD) (t : Fin cfg0.N)

theorem sc_first (h : t.val % 23 = 0) (i) : (outsAt0 m c t.val t.isLt).2 i = k0_pay1 (F := Ideal) (iblk m c 0 t) (iblk m c 1 t) i := by
  have hlt := point_lt t
  rw [outsAt0_A m c t (by omega) (by omega) (by omega) (by omega) (by omega)]
  frame_out

theorem sc_keep (h : ¬ t.val % 23 = 0) (i) : (outsAt0 m c t.val t.isLt).2 i
    = (outsAt0 m c (t.val - 1) (Nat.lt_of_le_of_lt (Nat.sub_le _ _) t.isLt)).2 i := by
  have hlt := point_lt t
  by_cases h1 : t.val % 23 ≤ 3
  · rw [outsAt0_B m c t (by omega) (by omega) (by omega) (by omega) (by omega)]
    frame_out; rfl
  · by_cases h2 : t.val % 23 ≤ 13
    · rw [outsAt0_C m c t (by omega) (by omega) (by omega) (by omega) (by omega)]
      frame_out; rfl
    · by_cases h3 : t.val % 23 ≤ 21
      · rw [outsAt0_D m c t (by omega) (by omega) (by omega) (by omega) (by omega)]
        frame_out; rfl
      · rw [outsAt0_E m c t (by omega) (by omega) (by omega) (by omega) (by omega)]
        frame_out; rfl

/-- At every grid point the scratch holds the tile's normalised tokens. -/
theorem sc (r : Fin 32) (k : Fin 2048) : (outsAt0 m c t.val t.isLt).2 (ix2 r k)
    = normRow (fun i => X m c (ix3 (row t r) 0 i)) (fun i => G m c (ix2 0 i)) k := by
  rw [Pipeline.eq_of_write_hold_apply (fun n h => (outsAt0 m c n h).2) 23
    (fun t => k0_pay1 (F := Ideal) (iblk m c 0 t) (iblk m c 1 t)) (sc_first m c) (sc_keep m c) t]
  refine (pay1 _ _ r k).trans ?_
  have e : row ⟨23 * (t.val / 23), Pipeline.run_start_lt t⟩ r = row t r := Fin.ext (by simp only [row]; omega)
  congr 1
  · funext i; rw [iblk0]; refine (V35 m c _ i).trans ?_
    exact congrArg (fun R : Fin 32 => X m c (ix3 R 0 i)) e
  · funext i; rw [iblk1]; exact V34 m c i

end Cert.ProjSampleIdeal.Step
end
-- ==== Proof.ProjSample.Cases.lean ====
/- What the kernel stores of a tile, by the group of columns it lies in. -/
module
public import proofs.«01_k».proof.Proof.ProjSample.Held
@[expose] public section
set_option maxRecDepth 16384
noncomputable section
open Idealize.ShloMosaic Idealize.ShloMosaic.TcCoe Idealize.SL.Sem
namespace Cert.ProjSampleIdeal.Step
open Cert.ProjSampleIdeal Cert.ProjSampleIdeal.Gen Cert.InProj
open Cert.ProjIdeal.Step (small src src_low src_mid src_high src_f src_gb lane8 lane8' lane16 lane16')
variable (m : (ℓ : Loc nD τ sig) → Buf (Elt Ideal) ℓ) (c : Dev nD) (t : Fin cfg0.N)

/-- The tile's product with the kept tokens is the layer's projection. -/
theorem acc_at (h : S32x2048.Idx → EReal) (hh : ∀ r k, h (ix2 r k) = (outsAt0 m c t.val t.isLt).2 (ix2 r k)) (r : Fin 32) (n : Fin 512)
    (hn : (col t n).val < 11288) : k0_pay2 (F := Ideal) h (iblk m c 2 t) (ix2 r n) = proj m c (row t r) (src (col t n)) := by
  refine (pay2 _ _ r n).trans ?_
  unfold proj InProjSample.Ref.proj
  congr 1
  · funext k; rw [hh]; exact sc m c t r k
  · funext k; rw [iblk2]; exact V16 m c k (col t n) hn

/-- A normalised head's entry: the head's 128 columns of the layer's projection, normalised. -/
def headAt (r : Fin 32) (n : Fin 512) : EReal :=
  normHead (fun e => proj m c (row t r) (src (col t ⟨n.val / 128 * 128 + e, by omega⟩)))
    (fun e => V m c main_v25 (ix2 0 (col t ⟨n.val / 128 * 128 + e, by omega⟩))) ⟨n.val % 128, by omega⟩

theorem out_C (h : ¬ t.val % 23 ≤ 3) (h' : t.val % 23 ≤ 13) (r : Fin 32) (n : Fin 512) :
    (outsAt0 m c t.val t.isLt).1 (ix2 r n) = proj m c (row t r) (src (col t n)) := by
  have hlt := point_lt t
  have hk := sc_keep m c t (by omega)
  rw [outsAt0_C m c t (by omega) (by omega) (by omega) (by omega) (by omega)]
  frame_out
  exact acc_at m c t _ (fun r k => (congrFun ((Memref.isWhole_whole _).read_unread _) _).trans (hk _).symm) r n (by unfold col; dsimp only; omega)

theorem out_D (h : ¬ t.val % 23 ≤ 13) (h' : t.val % 23 ≤ 21) (r : Fin 32) (n : Fin 512) :
    (outsAt0 m c t.val t.isLt).1 (ix2 r n) = sigm (proj m c (row t r) (src (col t n))) := by
  have hlt := point_lt t
  have hk := sc_keep m c t (by omega)
  rw [outsAt0_D m c t (by omega) (by omega) (by omega) (by omega) (by omega)]
  frame_out
  refine (pay5 _ _ r n).trans (congrArg _ ?_)
  exact acc_at m c t _ (fun r k => (congrFun ((Memref.isWhole_whole _).read_unread _) _).trans (hk _).symm) r n (by unfold col; dsimp only; omega)

theorem head_eq (h : S32x2048.Idx → EReal) (hh : ∀ r k, h (ix2 r k) = (outsAt0 m c t.val t.isLt).2 (ix2 r k)) (ht : t.val % 23 ≤ 3)
    (r : Fin 32) (n : Fin 512) (o : Nat) (ho : o + 128 ≤ 512) (hn : n.val / 128 * 128 = o) (g : S1x128.Idx → EReal)
    (hg : ∀ e : Fin 128, g (ix2 0 e) = iblk m c 3 t (ix2 0 (⟨o + e, by omega⟩ : Fin 512))) :
    normHead (fun e => k0_pay2 (F := Ideal) h (iblk m c 2 t) (ix2 r (⟨o + e, by omega⟩ : Fin 512))) (fun e => g (ix2 0 e))
      ⟨n.val % 128, by omega⟩ = headAt m c t r n := by
  unfold headAt
  subst hn
  congr 1
  · funext e; exact acc_at m c t h hh r _ (by unfold col; dsimp only; omega)
  · funext e; rw [hg, iblk3]; rfl

/-- The four head tiles of a stored block, at an index. -/
theorem heads_at (h : S32x2048.Idx → EReal) (hh : ∀ r k, h (ix2 r k) = (outsAt0 m c t.val t.isLt).2 (ix2 r k)) (ht : t.val % 23 ≤ 3)
    (r : Fin 32) (n : Fin 512) :
    View.canon (Val := Elt Ideal) (s := S32x512) (e := .f32)
      [⟨Rect.unit ![0, 384] ![32, 128] inb_S32x512_S32x128_0_384,
          k0_pay4 (F := Ideal) h (iblk m c 2 t)
            (View.ld (iblk m c 3 t) (Rect.unit ![0, 384] ![1, 128] inb_S1x512_S1x128_0_384))⟩,
        ⟨Rect.unit ![0, 256] ![32, 128] inb_S32x512_S32x128_0_256,
          k0_pay3 (F := Ideal) (k0_pay9 (k0_pay2 h (iblk m c 2 t)))
            (k0_pay10 (k0_pay2 h (iblk m c 2 t)))
            (View.ld (iblk m c 3 t) (Rect.unit ![0, 256] ![1, 128] inb_S1x512_S1x128_0_256))⟩,
        ⟨Rect.unit ![0, 128] ![32, 128] inb_S32x512_S32x128_0_128,
          k0_pay8 (F := Ideal) (k0_pay2 h (iblk m c 2 t))
            (View.ld (iblk m c 3 t) (Rect.unit ![0, 128] ![1, 128] inb_S1x512_S1x128_0_128))⟩,
        ⟨Rect.unit ![0, 0] ![32, 128] inb_S32x512_S32x128_0_0,
          k0_pay7 (F := Ideal) (k0_pay2 h (iblk m c 2 t))
            (View.ld (iblk m c 3 t) (Rect.unit ![0, 0] ![1, 128] inb_S1x512_S1x128_0_0))⟩]
      (ix2 r n) = headAt m c t r n := by
  canon_tiles x hx
  case piece0 =>
    have h1 : n.val = 384 + (x 1).val := hx1
    have h0 : r.val = (x 0).val := hx0
    have ex : x = (ix2 r (⟨n.val % 128, by omega⟩ : Fin 128) : S32x128.Idx) := by blk_ext
    rw [ex]
    refine ((pay4 _ _ _ r _).trans ?_).trans (head_eq m c t h hh ht r n 384 (by omega) (by omega)
      (View.ld (iblk m c 3 t) (Rect.unit ![0, 384] ![1, 128] inb_S1x512_S1x128_0_384)) fun e => ?_)
    · rfl
    · pointwise []
  case piece1 =>
    have h1 : n.val = 256 + (x 1).val := hx1
    have h0 : r.val = (x 0).val := hx0
    have ex : x = (ix2 r (⟨n.val % 128, by omega⟩ : Fin 128) : S32x128.Idx) := by blk_ext
    rw [ex]
    refine ((pay3 _ _ r _).trans ?_).trans (head_eq m c t h hh ht r n 256 (by omega) (by omega)
      (View.ld (iblk m c 3 t) (Rect.unit ![0, 256] ![1, 128] inb_S1x512_S1x128_0_256)) fun e => ?_)
    · rfl
    · pointwise []
  case piece2 =>
    have h1 : n.val = 128 + (x 1).val := hx1
    have h0 : r.val = (x 0).val := hx0
    have ex : x = (ix2 r (⟨n.val % 128, by omega⟩ : Fin 128) : S32x128.Idx) := by blk_ext
    rw [ex]
    refine ((pay8 _ _ r _).trans ?_).trans (head_eq m c t h hh ht r n 128 (by omega) (by omega)
      (View.ld (iblk m c 3 t) (Rect.unit ![0, 128] ![1, 128] inb_S1x512_S1x128_0_128)) fun e => ?_)
    · rfl
    · pointwise []
  case piece3 =>
    have h1 : n.val = 0 + (x 1).val := hx1.trans (Nat.zero_add _).symm
    have h0 : r.val = (x 0).val := hx0
    have ex : x = (ix2 r (⟨n.val % 128, by omega⟩ : Fin 128) : S32x128.Idx) := by blk_ext
    rw [ex]
    refine ((pay7 _ _ r _).trans ?_).trans (head_eq m c t h hh ht r n 0 (by omega) (by omega)
      (View.ld (iblk m c 3 t) (Rect.unit ![0, 0] ![1, 128] inb_S1x512_S1x128_0_0)) fun e => ?_)
    · simp only [Nat.zero_add]
    · pointwise []

/-- The last tile's first 128 lanes are the small columns' values. -/
theorem out_E (h : t.val % 23 = 22) (r : Fin 32) (n : Fin 128) :
    (outsAt0 m c t.val t.isLt).1 (ix2 r ⟨n, by omega⟩)
      = k0_pay11 (F := Ideal) (k0_pay2 (fun i => (outsAt0 m c t.val t.isLt).2 i) (iblk m c 2 t))
        (fun i => V m c main_v33 (ix2 0 (i 1))) (fun i => V m c main_v33 (ix2 1 (i 1))) (ix2 r n) := by
  have hlt := point_lt t
  have hk : (fun i => (outsAt0 m c t.val t.isLt).2 i) = (outsAt0 m c (t.val - 1) (Nat.lt_of_le_of_lt (Nat.sub_le _ _) t.isLt)).2 :=
    funext fun i => sc_keep m c t (by omega) i
  rw [hk, outsAt0_E m c t (by omega) (by omega) (by omega) (by omega) (by omega)]
  frame_out
  generalize hy : (ix2 r (⟨n, by omega⟩ : Fin 512) : S32x512.Idx) = y
  have hy0 : (y 0).val = r.val := by rw [← hy]; rfl
  have hy1 : (y 1).val = n.val := by rw [← hy]; rfl
  canon_tiles x hx using (View.cover_of_tiledBy (s := S32x512) (Val := Elt Ideal) _ ![32, 128] (by sl_kernel_rfl) y)
  case piece0 => omega
  case piece1 =>
    have ex : x = (ix2 r n : S32x128.Idx) := by blk_ext
    rw [ex, (Memref.isWhole_whole _).read_unread]
    have e0 : View.ld (iblk m c 4 t) (Rect.unit ![0, 0] ![1, 128] inb_S8x128_S1x128_0_0) = fun i : S1x128.Idx => V m c main_v33 (ix2 0 (i 1)) := by
      funext i; idx_vars i; pointwise []; exact iblk4 m c t 0 _
    have e1 : View.ld (iblk m c 4 t) (Rect.unit ![1, 0] ![1, 128] inb_S8x128_S1x128_1_0) = fun i : S1x128.Idx => V m c main_v33 (ix2 1 (i 1)) := by
      funext i; idx_vars i; pointwise []; exact iblk4 m c t 1 _
    exact congrArg₂ (fun a b => k0_pay11 (F := Ideal) _ a b (ix2 r n)) e0 e1

/-- The forget gate's logarithm. -/
theorem out_f (h : t.val % 23 = 22) (r : Fin 32) (n : Fin 128) (hn : n.val < 8) :
    (outsAt0 m c t.val t.isLt).1 (ix2 r ⟨n, by omega⟩) = logSig (proj m c (row t r) (src (col t ⟨n, by omega⟩)) + Fb m c (ix2 0 ⟨n, hn⟩)) := by
  refine (out_E m c t h r n).trans ?_
  rw [pay11_f _ _ _ _ _ hn]
  congr 1
  exact congrArg₂ (· + ·) (acc_at m c t _ (fun _ _ => rfl) r _ (by unfold col; dsimp only; omega)) (V33_f m c n hn)

/-- The decay's logarithm. -/
theorem out_g (h : t.val % 23 = 22) (r : Fin 32) (n : Fin 128) (hn : 8 ≤ n.val) (hn' : n.val < 16) :
    (outsAt0 m c t.val t.isLt).1 (ix2 r ⟨n, by omega⟩) = -Ideal.exp (Al m c (ix2 0 ⟨n - 8, by omega⟩)) * softplus (proj m c (row t r) (src (col t ⟨n, by omega⟩)) + Dt m c (ix2 0 ⟨n - 8, by omega⟩)) := by
  refine (out_E m c t h r n).trans ?_
  rw [pay11_g _ _ _ _ _ hn hn']
  refine congrArg₂ (fun a b => -Ideal.exp a * softplus b) (V33_a m c n hn hn') ?_
  exact congrArg₂ (· + ·) (acc_at m c t _ (fun _ _ => rfl) r _ (by unfold col; dsimp only; omega)) (V33_d m c n hn hn')

/-- The write strength. -/
theorem out_b (h : t.val % 23 = 22) (r : Fin 32) (n : Fin 128) (hn : 16 ≤ n.val) (hn' : n.val < 24) :
    (outsAt0 m c t.val t.isLt).1 (ix2 r ⟨n, by omega⟩) = sigm (proj m c (row t r) (src (col t ⟨n, by omega⟩))) := by
  refine (out_E m c t h r n).trans ?_
  rw [pay11_b _ _ _ _ _ hn]
  congr 1
  refine (congrArg₂ (· + ·) (acc_at m c t _ (fun _ _ => rfl) r _ (by unfold col; dsimp only; omega)) (V33_z m c n hn)).trans ?_
  exact add_zero _

theorem out_A (h : t.val % 23 = 0) (r : Fin 32) (n : Fin 512) :
    (outsAt0 m c t.val t.isLt).1 (ix2 r n) = headAt m c t r n := by
  have hlt := point_lt t
  have hs := sc_first m c t h
  rw [outsAt0_A m c t (by omega) (by omega) (by omega) (by omega) (by omega)]
  frame_out
  exact heads_at m c t _ (fun r k => (hs _).symm) (by omega) r n

theorem out_B (h : t.val % 23 ≤ 3) (h' : ¬ t.val % 23 = 0) (r : Fin 32) (n : Fin 512) :
    (outsAt0 m c t.val t.isLt).1 (ix2 r n) = headAt m c t r n := by
  have hlt := point_lt t
  have hk := sc_keep m c t h'
  rw [outsAt0_B m c t (by omega) (by omega) (by omega) (by omega) (by omega)]
  frame_out
  exact heads_at m c t _ (fun r k => (congrFun ((Memref.isWhole_whole _).read_unread _) _).trans (hk _).symm) (by omega) r n

end Cert.ProjSampleIdeal.Step
end
-- ==== Proof.ProjSample.Final.lean ====
/- The kernel's output array, by the group of columns. -/
module
public import proofs.«01_k».proof.Proof.ProjSample.Cases
@[expose] public section
set_option maxRecDepth 16384
noncomputable section
open Idealize.ShloMosaic Idealize.ShloMosaic.TcCoe Idealize.SL.Sem
open Idealize.ShloMosaic.Pipeline (Dat)
namespace Cert.ProjSampleIdeal.Step
open Cert.ProjSampleIdeal Cert.ProjSampleIdeal.Gen Cert.InProj
open Cert.ProjIdeal.Step (small src src_low src_mid src_high src_f src_gb lane8 lane8' lane16 lane16')
variable (m : (ℓ : Loc nD τ sig) → Buf (Elt Ideal) ℓ) (c : Dev nD)

/-- The grid point whose tile holds token `R` and column `n`. -/
def pt (R : Fin 32) (n : Fin 11776) : Fin cfg0.N :=
  ⟨R.val / 32 * 23 + n.val / 512, (by omega : R.val / 32 * 23 + n.val / 512 < 23)⟩

/-- The entry the kernel stores for token `R` and column `n`. -/
def stored (R : Fin 32) (n : Fin 11776) : EReal :=
  (outsAt0 m c (pt R n).val (pt R n).isLt).1 (ix2 (⟨R.val % 32, by omega⟩ : Fin 32) (⟨n.val % 512, by omega⟩ : Fin 512))

theorem outs_congr {a b : Nat} (ha : a < cfg0.N) (hb : b < cfg0.N) (e : a = b) : (outsAt0 m c a ha).1 = (outsAt0 m c b hb).1 := by
  subst e; rfl

theorem stored_at (t : Fin cfg0.N) (r : Fin 32) (n : Fin 512) : stored m c (row t r) (col t n) = (outsAt0 m c t.val t.isLt).1 (ix2 r n) := by
  have ht := point_lt t
  have e : (pt (row t r) (col t n)).val = t.val := by simp only [pt, row, col]; omega
  have e1 : (⟨(row t r).val % 32, by omega⟩ : Fin 32) = r := Fin.ext (by simp only [row]; omega)
  have e2 : (⟨(col t n).val % 512, by omega⟩ : Fin 512) = n := Fin.ext (by simp only [col]; omega)
  unfold stored
  rw [e1, e2, outs_congr m c _ t.isLt e]

/-- The kernel's output array. -/
theorem final_5 : (dats m 0 c).arrAt 5 (cfgs 0).N = fun i : S32x11776.Idx => stored m c (i 0) (i 1) := by
  refine (dats m 0 c).arrAt_eq_of_covers 5 _ (by decide +kernel) fun t hf y => ?_
  blk_simp; rw [after0_5]
  obtain ⟨r, hr⟩ : ∃ r : Fin 32, r.val = y 0 := ⟨⟨y 0, (y 0).isLt⟩, rfl⟩
  obtain ⟨n, hn⟩ : ∃ n : Fin 512, n.val = y 1 := ⟨⟨y 1, (y 1).isLt⟩, rfl⟩
  have hy : (((View.whole main_v36).slice (win0_5.rect t)).emb y) = ix2 (row t r) (col t n) := by
    blk_ext [row, col, idx_val t]
  have ey : y = (ix2 r n : S32x512.Idx) := by blk_ext
  rw [hy]
  refine Eq.trans ?_ (stored_at m c t r n).symm
  exact congrArg _ ey

variable (R : Fin 32)

theorem row_pt (n : Fin 11776) : row (pt R n) ⟨R.val % 32, by omega⟩ = R := Fin.ext (by simp only [row, pt]; omega)
theorem col_pt (n : Fin 11776) : col (pt R n) ⟨n.val % 512, by omega⟩ = n := Fin.ext (by simp only [col, pt]; omega)

/-- The first 2048 columns: the normalised heads of queries and keys. -/
theorem stored_head (n : Fin 11776) (h : n.val < 2048) : stored m c R n
    = normHead (fun e => proj m c R (src ⟨n.val / 128 * 128 + e, by omega⟩))
      (fun e => V m c main_v25 (ix2 0 (⟨n.val / 128 * 128 + e, by omega⟩ : Fin 11776))) ⟨n.val % 128, by omega⟩ := by
  have hp : (pt R n).val % 23 ≤ 3 := by simp only [pt]; omega
  have e0 : stored m c R n = headAt m c (pt R n) ⟨R.val % 32, by omega⟩ ⟨n.val % 512, by omega⟩ := by
    by_cases hz : (pt R n).val % 23 = 0
    · exact out_A m c _ hz _ _
    · exact out_B m c _ hp hz _ _
  rw [e0]; unfold headAt
  have ec (e : Fin 128) : col (pt R n) ⟨n.val % 512 / 128 * 128 + e, by omega⟩ = ⟨n.val / 128 * 128 + e, by omega⟩ :=
    Fin.ext (by simp only [col, pt]; omega)
  have ed : (⟨n.val % 512 % 128, by omega⟩ : Fin 128) = ⟨n.val % 128, by omega⟩ := Fin.ext (by simp only; omega)
  simp only [ec, ed, row_pt]

/-- The columns up to 7168: the projection itself. -/
theorem stored_raw (n : Fin 11776) (h : 2048 ≤ n.val) (h' : n.val < 7168) : stored m c R n = proj m c R (src n) := by
  refine (out_C m c (pt R n) (by simp only [pt]; omega) (by simp only [pt]; omega) _ _).trans ?_
  rw [row_pt, col_pt]

/-- The columns from 7168 to 11264: the gates. -/
theorem stored_gate (n : Fin 11776) (h : 7168 ≤ n.val) (h' : n.val < 11264) : stored m c R n = sigm (proj m c R (src n)) := by
  refine (out_D m c (pt R n) (by simp only [pt]; omega) (by simp only [pt]; omega) _ _).trans ?_
  rw [row_pt, col_pt]

/-- The last tile's first 128 columns, as stored at its grid point. -/
theorem stored_small (n : Fin 128) : stored m c R ⟨11264 + n, by omega⟩
    = (outsAt0 m c (pt R ⟨11264, by omega⟩).val (pt R ⟨11264, by omega⟩).isLt).1
        (ix2 (⟨R.val % 32, by omega⟩ : Fin 32) (⟨n.val, by omega⟩ : Fin 512)) := by
  rw [← stored_at, row_pt]
  exact congrArg _ (Fin.ext (by simp only [col, pt]; omega))

theorem last_pt : (pt R ⟨11264, by omega⟩).val % 23 = 22 := by simp only [pt]; omega

/-- The forget gate's logarithm. -/
theorem stored_f (n : Fin 8) : stored m c R ⟨11264 + (0 + n), by omega⟩ = logSig (proj m c R ⟨3072 + n, by omega⟩ + Fb m c (ix2 0 n)) := by
  rw [show stored m c R ⟨11264 + (0 + n), by omega⟩ = _ from stored_small m c R (⟨0 + n, by omega⟩ : Fin 128)]
  refine (out_f m c _ (last_pt R) _ (⟨0 + n, by omega⟩ : Fin 128) (by show 0 + n.val < 8; omega)).trans ?_
  rw [row_pt]
  have hv : (col (pt R ⟨11264, by omega⟩) ⟨0 + n, by omega⟩).val = 11264 + (0 + n.val) := by simp only [col, pt]; omega
  have ec : src (col (pt R ⟨11264, by omega⟩) ⟨0 + n, by omega⟩) = ⟨3072 + n, by omega⟩ :=
    Fin.ext (by rw [src_f _ (by omega) (by omega), hv]; simp only; omega)
  have en : (⟨0 + n.val, by omega⟩ : Fin 8) = n := Fin.ext (Nat.zero_add _)
  rw [ec, en]

/-- The decay's logarithm. -/
theorem stored_g (n : Fin 8) : stored m c R ⟨11264 + (8 + n), by omega⟩ = -Ideal.exp (Al m c (ix2 0 n)) * softplus (proj m c R ⟨6152 + n, by omega⟩ + Dt m c (ix2 0 n)) := by
  rw [show stored m c R ⟨11264 + (8 + n), by omega⟩ = _ from stored_small m c R (⟨8 + n, by omega⟩ : Fin 128)]
  refine (out_g m c _ (last_pt R) _ (⟨8 + n, by omega⟩ : Fin 128) (by show 8 ≤ 8 + n.val; omega) (by show 8 + n.val < 16; omega)).trans ?_
  rw [row_pt]
  have hv : (col (pt R ⟨11264, by omega⟩) ⟨8 + n, by omega⟩).val = 11264 + (8 + n.val) := by simp only [col, pt]; omega
  have ec : src (col (pt R ⟨11264, by omega⟩) ⟨8 + n, by omega⟩) = ⟨6152 + n, by omega⟩ :=
    Fin.ext (by rw [src_gb _ (by omega), hv]; simp only; omega)
  have en : (⟨8 + n.val - 8, by omega⟩ : Fin 8) = n := Fin.ext (Nat.add_sub_cancel_left ..)
  rw [ec, en]

/-- The write strength. -/
theorem stored_b (n : Fin 8) : stored m c R ⟨11264 + (16 + n), by omega⟩ = sigm (proj m c R ⟨6160 + n, by omega⟩) := by
  rw [show stored m c R ⟨11264 + (16 + n), by omega⟩ = _ from stored_small m c R (⟨16 + n, by omega⟩ : Fin 128)]
  refine (out_b m c _ (last_pt R) _ (⟨16 + n, by omega⟩ : Fin 128) (by show 16 ≤ 16 + n.val; omega) (by show 16 + n.val < 24; omega)).trans ?_
  rw [row_pt]
  have hv : (col (pt R ⟨11264, by omega⟩) ⟨16 + n, by omega⟩).val = 11264 + (16 + n.val) := by simp only [col, pt]; omega
  have ec : src (col (pt R ⟨11264, by omega⟩) ⟨16 + n, by omega⟩) = ⟨6160 + n, by omega⟩ :=
    Fin.ext (by rw [src_gb _ (by omega), hv]; simp only; omega)
  rw [ec]

/-! ## The results, at an index -/

theorem proj_tok (b : Fin 32) (n : Fin 11288) :
    proj m c b n = InProjSample.Ref.proj (X m c) (G m c) (W m c) b n := rfl

variable (b : Fin 32)

/-- The queries. -/
theorem out_q (h : Fin 8) (d : Fin 128) : stored m c b ⟨h * 128 + d, by omega⟩
    = ProjSampleRefIdeal.Read.val_main_v42 (F := Ideal) (X m c) (G m c) (W m c) (Qg m c) (ix4 b 0 h d) := by
  rw [InProjSample.Ref.v42, stored_head m c _ _ (by simp only; omega)]
  have ec (e : Fin 128) : (⟨(h.val * 128 + d.val) / 128 * 128 + e.val, by omega⟩ : Fin 11776) = ⟨h * 128 + e, by omega⟩ :=
    Fin.ext (by simp only; omega)
  have es (e : Fin 128) : src ⟨h * 128 + e, by omega⟩ = ⟨h * 128 + e, by omega⟩ := Fin.ext (src_low _ (by simp only; omega))
  have ed : (⟨(h.val * 128 + d.val) % 128, by omega⟩ : Fin 128) = d := Fin.ext (by simp only; omega)
  simp only [ec, ed, es, proj_tok]
  congr 1
  funext e
  refine (V25_q m c _ (by simp only; omega)).trans (congrArg _ ?_)
  exact congrArg (ix2 0) (Fin.ext (by simp only; omega))

/-- The keys. -/
theorem out_k (h : Fin 8) (d : Fin 128) : stored m c b ⟨1024 + (h * 128 + d), by omega⟩
    = ProjSampleRefIdeal.Read.val_main_v55 (F := Ideal) (X m c) (G m c) (W m c) (Kg m c) (ix4 b 0 h d) := by
  rw [InProjSample.Ref.v55, stored_head m c _ _ (by simp only; omega)]
  have ec (e : Fin 128) : (⟨(1024 + (h.val * 128 + d.val)) / 128 * 128 + e.val, by omega⟩ : Fin 11776) = ⟨1024 + (h * 128 + e), by omega⟩ :=
    Fin.ext (by simp only; omega)
  have es (e : Fin 128) : src ⟨1024 + (h * 128 + e), by omega⟩ = ⟨1024 + (h * 128 + e), by omega⟩ :=
    Fin.ext (src_low _ (by simp only; omega))
  have ed : (⟨(1024 + (h.val * 128 + d.val)) % 128, by omega⟩ : Fin 128) = d := Fin.ext (by simp only; omega)
  simp only [ec, ed, es, proj_tok]
  congr 1
  funext e
  refine (V25_k m c _ (by simp only; omega) (by simp only; omega)).trans (congrArg _ ?_)
  exact congrArg (ix2 0) (Fin.ext (by simp only; omega))

/-- The values. -/
theorem out_v (h : Fin 8) (d : Fin 128) : stored m c b ⟨2048 + (h * 128 + d), by omega⟩
    = ProjSampleRefIdeal.Read.val_main_v24 (F := Ideal) (X m c) (G m c) (W m c) (ix4 b 0 h d) := by
  rw [InProjSample.Ref.v24, stored_raw m c _ _ (by simp only; omega) (by simp only; omega), proj_tok]
  congr 1
  exact Fin.ext (src_low _ (by simp only; omega))

/-- The channels the short convolution runs over. -/
theorem out_xc (n : Fin 3072) : stored m c b ⟨3072 + n, by omega⟩
    = ProjSampleRefIdeal.Read.val_main_v56 (F := Ideal) (X m c) (G m c) (W m c) (ix3 b 0 n) := by
  rw [InProjSample.Ref.v56, stored_raw m c _ _ (by simp only; omega) (by simp only; omega), proj_tok]
  congr 1
  exact Fin.ext ((src_mid _ (by simp only; omega) (by simp only; omega)).trans (by simp only; omega))

/-- The output gate's arguments. -/
theorem out_z (h : Fin 8) (d : Fin 128) : stored m c b ⟨6144 + (h * 128 + d), by omega⟩
    = ProjSampleRefIdeal.Read.val_main_v77 (F := Ideal) (X m c) (G m c) (W m c) (ix4 b 0 h d) := by
  rw [InProjSample.Ref.v77, stored_raw m c _ _ (by simp only; omega) (by simp only; omega), proj_tok]
  congr 1
  exact Fin.ext ((src_high _ (by simp only; omega) (by simp only; omega)).trans (by simp only; omega))

/-- The first branch's gate. -/
theorem out_ga (n : Fin 2048) : stored m c b ⟨7168 + n, by omega⟩
    = ProjSampleRefIdeal.Read.val_main_v84 (F := Ideal) (X m c) (G m c) (W m c) (ix3 b 0 n) := by
  rw [InProjSample.Ref.v84, stored_gate m c _ _ (by simp only; omega) (by simp only; omega), proj_tok]
  congr 2
  exact Fin.ext ((src_high _ (by simp only; omega) (by simp only; omega)).trans (by simp only; omega))

/-- The second branch's gate. -/
theorem out_gb (n : Fin 2048) : stored m c b ⟨9216 + n, by omega⟩
    = ProjSampleRefIdeal.Read.val_main_v91 (F := Ideal) (X m c) (G m c) (W m c) (ix3 b 0 n) := by
  rw [InProjSample.Ref.v91, stored_gate m c _ _ (by simp only; omega) (by simp only; omega), proj_tok]
  congr 2
  exact Fin.ext ((src_high _ (by simp only; omega) (by simp only; omega)).trans (by simp only; omega))

/-- The forget gate's logarithm. -/
theorem out_logf (h : Fin 8) : stored m c b ⟨11264 + h, by omega⟩
    = ProjSampleRefIdeal.Read.val_main_v29 (F := Ideal) (X m c) (G m c) (W m c) (Fb m c) (ix3 b 0 h) := by
  rw [InProjSample.Ref.v29, ← proj_tok, ← stored_f]
  exact congrArg _ (Fin.ext (by simp only; omega))

/-- The decay's logarithm. -/
theorem out_decay (h : Fin 8) : stored m c b ⟨11272 + h, by omega⟩
    = ProjSampleRefIdeal.Read.val_main_v69 (F := Ideal) (X m c) (G m c) (W m c) (Al m c) (Dt m c) (ix3 b 0 h) := by
  rw [InProjSample.Ref.v69, ← proj_tok, ← stored_g]
  exact congrArg _ (Fin.ext (by simp only; omega))

/-- The write strength. -/
theorem out_beta (h : Fin 8) : stored m c b ⟨11280 + h, by omega⟩
    = ProjSampleRefIdeal.Read.val_main_v75 (F := Ideal) (X m c) (G m c) (W m c) (ix3 b 0 h) := by
  rw [InProjSample.Ref.v75, ← proj_tok, ← stored_b]
  exact congrArg _ (Fin.ext (by simp only; omega))

end Cert.ProjSampleIdeal.Step
end
-- ==== Proof.ProjSample.Results.lean ====
module

public import proofs.«01_k».proof.Proof.ProjSample.Final
public import Idealize.ShloMosaic.Lib.Claim

@[expose] public section

set_option maxRecDepth 16384

noncomputable section

namespace Cert.ProjSampleIdeal.Step

open Idealize.ShloMosaic Idealize.ShloMosaic.TcCoe Idealize.SL.Sem
open Idealize.ShloMosaic.Pipeline (Dat)
open Cert.ProjSampleIdeal Cert.ProjSampleIdeal.Gen Cert.InProj

variable (m : (ℓ : Loc nD τ sig) → Buf (Elt Ideal) ℓ) (c : Dev nD)

/-- The buffers' contents after the operations that follow the call. -/
abbrev tail (b : Ref sig .tc) := Pipeline.afterTail₀ cfgs (dats m) 0 (V0 m) [hostOps1] c b

/-- The buffers' contents when the call ends. -/
abbrev exitW := Pipeline.withArrays (cfgs 0).spec c (V0 m c) fun w => (dats m 0 c).arrAt w (cfgs 0).N

/-- The call's result, by row and column. -/
theorem exit_P : exitW m c (Proc.devRef .tc main_v36) = fun i : S32x11776.Idx => stored m c (i 0) (i 1) :=
  (Pipeline.withArrays_arr (cfgs 0).spec (by decide) c (V0 m c) (fun w => (dats m 0 c).arrAt w (cfgs 0).N) 5).trans (final_5 m c)

theorem tail_eq (b : Ref sig .tc) : tail m c b = StableHlo.after hostOps1 (exitW m c) (Proc.devRef .tc b) := rfl

/-- The keys: the kernel's result is the reference's. -/
theorem tail_v57 : tail m c main_v57 = ProjSampleRefIdeal.Read.val_main_v55 (F := Ideal) (X m c) (G m c) (W m c) (Kg m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_k m c i0 i2 i3)
  exact congrArg₂ (stored m c) (Fin.ext (by (try simp only []) <;> omega)) (Fin.ext (by (try simp only) <;> omega))

/-- The values: the kernel's result is the reference's. -/
theorem tail_v58 : tail m c main_v58 = ProjSampleRefIdeal.Read.val_main_v24 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_v m c i0 i2 i3)
  exact congrArg₂ (stored m c) (Fin.ext (by (try simp only []) <;> omega)) (Fin.ext (by (try simp only) <;> omega))

/-- The forget gate's logarithm: the kernel's result is the reference's. -/
theorem tail_v59 : tail m c main_v59 = ProjSampleRefIdeal.Read.val_main_v29 (F := Ideal) (X m c) (G m c) (W m c) (Fb m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_logf m c i0 i2)
  exact congrArg₂ (stored m c) (Fin.ext (by (try simp only []) <;> omega)) (Fin.ext (by (try simp only) <;> omega))

/-- The queries: the kernel's result is the reference's. -/
theorem tail_v44 : tail m c main_v44 = ProjSampleRefIdeal.Read.val_main_v42 (F := Ideal) (X m c) (G m c) (W m c) (Qg m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_q m c i0 i2 i3)
  exact congrArg₂ (stored m c) (Fin.ext (by (try simp only []) <;> omega)) (Fin.ext (by (try simp only) <;> omega))

/-- The channels: the kernel's result is the reference's. -/
theorem tail_v46 : tail m c main_v46 = ProjSampleRefIdeal.Read.val_main_v56 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_xc m c i0 i2)
  exact congrArg₂ (stored m c) (Fin.ext (by (try simp only []) <;> omega)) (Fin.ext (by (try simp only) <;> omega))

/-- The output gate's arguments: the kernel's result is the reference's. -/
theorem tail_v48 : tail m c main_v48 = ProjSampleRefIdeal.Read.val_main_v77 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_z m c i0 i2 i3)
  exact congrArg₂ (stored m c) (Fin.ext (by (try simp only []) <;> omega)) (Fin.ext (by (try simp only) <;> omega))

/-- The first branch's gate: the kernel's result is the reference's. -/
theorem tail_v50 : tail m c main_v50 = ProjSampleRefIdeal.Read.val_main_v84 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_ga m c i0 i2)
  exact congrArg₂ (stored m c) (Fin.ext (by (try simp only []) <;> omega)) (Fin.ext (by (try simp only) <;> omega))

/-- The second branch's gate: the kernel's result is the reference's. -/
theorem tail_v52 : tail m c main_v52 = ProjSampleRefIdeal.Read.val_main_v91 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_gb m c i0 i2)
  exact congrArg₂ (stored m c) (Fin.ext (by (try simp only []) <;> omega)) (Fin.ext (by (try simp only) <;> omega))

/-- The decay's logarithm: the kernel's result is the reference's. -/
theorem tail_v54 : tail m c main_v54 = ProjSampleRefIdeal.Read.val_main_v69 (F := Ideal) (X m c) (G m c) (W m c) (Al m c) (Dt m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_decay m c i0 i2)
  exact congrArg₂ (stored m c) (Fin.ext (by (try simp only []) <;> omega)) (Fin.ext (by (try simp only) <;> omega))

/-- The write strength: the kernel's result is the reference's. -/
theorem tail_v56 : tail m c main_v56 = ProjSampleRefIdeal.Read.val_main_v75 (F := Ideal) (X m c) (G m c) (W m c) := by
  rw [tail_eq]
  generalize hE : exitW m c = E
  have hP := exit_P m c
  rw [hE] at hP
  after_results
  rw [hP]
  funext i
  idx_vars i
  obtain rfl : i1 = 0 := Subsingleton.elim _ _
  pointwise
  refine Eq.trans ?_ (out_beta m c i0 i2)
  exact congrArg₂ (stored m c) (Fin.ext (by (try simp only []) <;> omega)) (Fin.ext (by (try simp only) <;> omega))

/-- Every run of the projection ends with the reference's results in the kernel's result arrays, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v57) = ProjSampleRefIdeal.Read.val_main_v55 (F := Ideal) (X m c) (G m c) (W m c) (Kg m c) ∧
      r.2.mem ((c.tc : Thread nD τ).loc main_v58) = ProjSampleRefIdeal.Read.val_main_v24 (F := Ideal) (X m c) (G m c) (W m c) ∧
      r.2.mem ((c.tc : Thread nD τ).loc main_v59) = ProjSampleRefIdeal.Read.val_main_v29 (F := Ideal) (X m c) (G m c) (W m c) (Fb m c) ∧
      r.2.mem ((c.tc : Thread nD τ).loc main_v44) = ProjSampleRefIdeal.Read.val_main_v42 (F := Ideal) (X m c) (G m c) (W m c) (Qg m c) ∧
      r.2.mem ((c.tc : Thread nD τ).loc main_v46) = ProjSampleRefIdeal.Read.val_main_v56 (F := Ideal) (X m c) (G m c) (W m c) ∧
      r.2.mem ((c.tc : Thread nD τ).loc main_v48) = ProjSampleRefIdeal.Read.val_main_v77 (F := Ideal) (X m c) (G m c) (W m c) ∧
      r.2.mem ((c.tc : Thread nD τ).loc main_v50) = ProjSampleRefIdeal.Read.val_main_v84 (F := Ideal) (X m c) (G m c) (W m c) ∧
      r.2.mem ((c.tc : Thread nD τ).loc main_v52) = ProjSampleRefIdeal.Read.val_main_v91 (F := Ideal) (X m c) (G m c) (W m c) ∧
      r.2.mem ((c.tc : Thread nD τ).loc main_v54) = ProjSampleRefIdeal.Read.val_main_v69 (F := Ideal) (X m c) (G m c) (W m c) (Al m c) (Dt m c) ∧
      r.2.mem ((c.tc : Thread nD τ).loc main_v56) = ProjSampleRefIdeal.Read.val_main_v75 (F := Ideal) (X m c) (G m c) (W m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun r h c => ⟨((h.2 c).2 _ (by decide)).trans (tail_v57 m c),
    ((h.2 c).2 _ (by decide)).trans (tail_v58 m c),
    ((h.2 c).2 _ (by decide)).trans (tail_v59 m c),
    ((h.2 c).2 _ (by decide)).trans (tail_v44 m c),
    ((h.2 c).2 _ (by decide)).trans (tail_v46 m c),
    ((h.2 c).2 _ (by decide)).trans (tail_v48 m c),
    ((h.2 c).2 _ (by decide)).trans (tail_v50 m c),
    ((h.2 c).2 _ (by decide)).trans (tail_v52 m c),
    ((h.2 c).2 _ (by decide)).trans (tail_v54 m c),
    ((h.2 c).2 _ (by decide)).trans (tail_v56 m c),
    h.1.1 c⟩) (θ_run_and (frame m ρ) (run_main m ρ))

end Cert.ProjSampleIdeal.Step
end
-- ==== Proof.Merge.Ref.lean ====
/- The reference of the merge, read at an index. -/
module

public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem

namespace Cert.Mixing

/-- A row against a column. -/
def dotRow {n : ℕ} (h w : Fin n → EReal) : EReal := ∑ k, h k * w k

namespace Ref

open Cert.MergeRefIdeal Cert.MergeRefIdeal.Gen Cert.MergeRefIdeal.Read

variable (X : FVec Ideal S8x2048x2048 .f32) (Of Og : FVec Ideal S16384x1024 .bf16) (P : FVec Ideal S16384x11776 .f32)
  (Wf Wg : FVec Ideal S1x1024x2048 .f32) (Wo : FVec Ideal S1x2048x2048 .f32)

/-- The two branches at token `R`, column `n`: each taken up to the layer's width and gated, then added. -/
def mixed (R : Fin 16384) (n : Fin 2048) : EReal :=
  P (ix2 R ⟨7168 + n, by omega⟩) * dotRow (fun k : Fin 1024 => Of (ix2 R k)) (fun k => Wf (ix3 0 k n))
    + P (ix2 R ⟨9216 + n, by omega⟩) * dotRow (fun k : Fin 1024 => Og (ix2 R k)) (fun k => Wg (ix3 0 k n))

/-- The layer's new residual at token `R`, column `n`: the old one plus the mixed branches' output projection. -/
def merged (R : Fin 16384) (n : Fin 2048) : EReal :=
  X (ix3 ⟨R / 2048, by omega⟩ ⟨R % 2048, by omega⟩ n) + dotRow (fun k => mixed Of Og P Wf Wg R k) (fun k => Wo (ix3 0 k n))

theorem v11 (R : Fin 16384) (n : Fin 2048) : val_main_v11 (F := Ideal) Of Og P Wf Wg (ix2 R n) = mixed Of Og P Wf Wg R n := by
  pointwise [val_main_v11, val_main_v10, val_main_v9, val_main_v8, val_main_v7, val_main_v6, val_main_v5, val_main_v4, val_main_v3, val_main_v2, val_main_v1]
  rfl

/-- The reference's result. -/
theorem v14 (R : Fin 16384) (n : Fin 2048) : val_main_v14 (F := Ideal) X Of Og P Wf Wg Wo (ix2 R n) = merged X Of Og P Wf Wg Wo R n := by
  pointwise [val_main_v14, val_main_v13, val_main_v12, val_main_v0]
  simp only [v11]
  rfl

end Ref

end Cert.Mixing

end
-- ==== Proof.Merge.Blocks.lean ====
/- The blocks the merge's two kernels read at a grid point (a tile of 512 tokens by 512 columns), and what they compute from them. -/
module
public import proofs.«01_k».proof.Proof.Gen.MergeIdeal.Frame
public import proofs.«01_k».proof.Proof.Merge.Ref
public import Idealize.ShloMosaic.Lib.Pipeline.ValueKit
public import Idealize.ShloMosaic.Lib.Pipeline.Value
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.MergeIdeal.Step
open Cert.MergeIdeal Cert.MergeIdeal.Gen Cert.Mixing
variable (m : (ℓ : Loc nD τ sig) → Buf (Elt Ideal) ℓ) (ρ : Dev nD → PrngReg)

/-- Every window's block index at every grid point of the first call. -/
theorem idx_val0 : ∀ t : Fin cfg0.N, win0_0.index t = ![t.val / 4, 0]
    ∧ win0_1.index t = ![t.val / 4, 0]
    ∧ win0_2.index t = ![0, t.val % 4]
    ∧ win0_3.index t = ![0, t.val % 4]
    ∧ win0_4.index t = ![t.val / 4, 14 + t.val % 4]
    ∧ win0_5.index t = ![t.val / 4, 18 + t.val % 4]
    ∧ win0_6.index t = ![t.val / 4, t.val % 4] :=
  (by decide +kernel : ∀ t : Fin grid0.N, _)

/-- Every window's block index at every grid point of the second call. -/
theorem idx_val1 : ∀ t : Fin cfg1.N, win1_0.index t = ![t.val / 4, 0]
    ∧ win1_1.index t = ![0, t.val % 4]
    ∧ win1_2.index t = ![t.val / 4, t.val % 4]
    ∧ win1_3.index t = ![t.val / 4, t.val % 4] :=
  (by decide +kernel : ∀ t : Fin grid1.N, _)

theorem point_lt0 (t : Fin cfg0.N) : t.val < 128 := t.isLt
theorem point_lt1 (t : Fin cfg1.N) : t.val < 128 := t.isLt

variable (c : Dev nD)

/-- The merge's arguments. -/
abbrev X := m ((c : Thread nD τ).loc main_arg0)
abbrev Of := m ((c : Thread nD τ).loc main_arg1)
abbrev Og := m ((c : Thread nD τ).loc main_arg2)
abbrev P := m ((c : Thread nD τ).loc main_arg3)
abbrev Wf := m ((c : Thread nD τ).loc main_arg4)
abbrev Wg := m ((c : Thread nD τ).loc main_arg5)
abbrev Wo := m ((c : Thread nD τ).loc main_arg6)

/-! ## What the first call finds -/

theorem V1_v1 (k : Fin 1024) (n : Fin 2048) : V1 m ρ c main_v1 (ix2 k n) = Wf m c (ix3 0 k n) := by
  show StableHlo.after hostOps0 (W0 m ρ c) (Proc.devRef .tc main_v1) (ix2 k n) = _
  after_results; pointwise
theorem V1_v3 (k : Fin 1024) (n : Fin 2048) : V1 m ρ c main_v3 (ix2 k n) = Wg m c (ix3 0 k n) := by
  show StableHlo.after hostOps0 (W0 m ρ c) (Proc.devRef .tc main_v3) (ix2 k n) = _
  after_results; pointwise
theorem V1_v5 (k n : Fin 2048) : V1 m ρ c main_v5 (ix2 k n) = Wo m c (ix3 0 k n) := by
  show StableHlo.after hostOps0 (W0 m ρ c) (Proc.devRef .tc main_v5) (ix2 k n) = _
  after_results; pointwise
theorem V1_v6 (R : Fin 16384) (n : Fin 2048) : V1 m ρ c main_v6 (ix2 R n) = X m c (ix3 ⟨R / 2048, by omega⟩ ⟨R % 2048, by omega⟩ n) := by
  show StableHlo.after hostOps0 (W0 m ρ c) (Proc.devRef .tc main_v6) (ix2 R n) = _
  after_results; pointwise
theorem V1_of : V1 m ρ c main_arg1 = Of m c := W1_args m ρ c _ (by decide)
theorem V1_og : V1 m ρ c main_arg2 = Og m c := W1_args m ρ c _ (by decide)
theorem V1_P : V1 m ρ c main_arg3 = P m c := W1_args m ρ c _ (by decide)

/-- The token at row `r` of a point's tile. -/
def row (t : Fin 128) (r : Fin 512) : Fin 16384 := ⟨t.val / 4 * 512 + r, by omega⟩
/-- The column at lane `n` of a point's tile. -/
def col (t : Fin 128) (n : Fin 512) : Fin 2048 := ⟨t.val % 4 * 512 + n, by omega⟩

section First
variable (t : Fin cfg0.N)
theorem iblk0_0 (r : Fin 512) (k : Fin 1024) : iblk0 (V1 m ρ) c 0 t (ix2 r k) = Of m c (ix2 (row t r) k) := by
  rw [← V1_of m ρ c]; have := point_lt0 t; blk_point [iblk0, row, idx_val0 t]
theorem iblk0_1 (r : Fin 512) (k : Fin 1024) : iblk0 (V1 m ρ) c 1 t (ix2 r k) = Og m c (ix2 (row t r) k) := by
  rw [← V1_og m ρ c]; have := point_lt0 t; blk_point [iblk0, row, idx_val0 t]
theorem iblk0_2 (k : Fin 1024) (n : Fin 512) : iblk0 (V1 m ρ) c 2 t (ix2 k n) = Wf m c (ix3 0 k (col t n)) := by
  rw [← V1_v1 m ρ c]; have := point_lt0 t; blk_point [iblk0, col, idx_val0 t]
theorem iblk0_3 (k : Fin 1024) (n : Fin 512) : iblk0 (V1 m ρ) c 3 t (ix2 k n) = Wg m c (ix3 0 k (col t n)) := by
  rw [← V1_v3 m ρ c]; have := point_lt0 t; blk_point [iblk0, col, idx_val0 t]
theorem iblk0_4 (r n : Fin 512) : iblk0 (V1 m ρ) c 4 t (ix2 r n) = P m c (ix2 (row t r) ⟨7168 + (col t n).val, by omega⟩) := by
  rw [← V1_P m ρ c]; have := point_lt0 t; blk_point [iblk0, row, col, idx_val0 t]
theorem iblk0_5 (r n : Fin 512) : iblk0 (V1 m ρ) c 5 t (ix2 r n) = P m c (ix2 (row t r) ⟨9216 + (col t n).val, by omega⟩) := by
  rw [← V1_P m ρ c]; have := point_lt0 t; blk_point [iblk0, row, col, idx_val0 t]
end First

/-- The first kernel's tile: the gated branches, added. -/
theorem pay0 (a b : S512x512.Idx → EReal) (x y : S512x1024.Idx → EReal) (u v : S1024x512.Idx → EReal) (r n : Fin 512) :
    k0_pay1 (F := Ideal) a x u b y v (ix2 r n)
      = a (ix2 r n) * dotRow (fun k => x (ix2 r k)) (fun k => u (ix2 k n)) + b (ix2 r n) * dotRow (fun k => y (ix2 r k)) (fun k => v (ix2 k n)) := by
  pointwise [k0_pay1]
  rfl

/-- The second kernel's tile: the residual plus the product. -/
theorem pay1 (a : S512x512.Idx → EReal) (x : S512x2048.Idx → EReal) (u : S2048x512.Idx → EReal) (r n : Fin 512) :
    k1_pay1 (F := Ideal) a x u (ix2 r n) = a (ix2 r n) + dotRow (fun k => x (ix2 r k)) (fun k => u (ix2 k n)) := by
  pointwise [k1_pay1]
  rfl

end Cert.MergeIdeal.Step
end
-- ==== Proof.Merge.Final.lean ====
/- What the merge's two calls leave in their arrays: the mixed branches, and the new residual. -/
module

public import proofs.«01_k».proof.Proof.Merge.Blocks

@[expose] public section

set_option maxRecDepth 16384

noncomputable section

open Idealize.ShloMosaic Idealize.ShloMosaic.TcCoe Idealize.SL.Sem
open Idealize.ShloMosaic.Pipeline (Dat)

namespace Cert.MergeIdeal.Step

open Cert.MergeIdeal Cert.MergeIdeal.Gen Cert.Mixing Cert.Mixing.Ref

variable (m : (ℓ : Loc nD τ sig) → Buf (Elt Ideal) ℓ) (ρ : Dev nD → PrngReg) (c : Dev nD)

theorem out0 (x0 x1 : Vec Ideal S512x1024 .bf16) (x2 x3 : Vec Ideal S1024x512 .bf16) (x4 x5 : Vec Ideal S512x512 .f32) :
    out0_6 (F := Ideal) x0 x1 x2 x3 x4 x5 = k0_pay1 x4 x0 x2 x5 x1 x3 := by
  unfold out0_6
  frame_out

theorem out1 (x0 : Vec Ideal S512x2048 .bf16) (x1 : Vec Ideal S2048x512 .bf16) (x2 : Vec Ideal S512x512 .f32) :
    out1_3 (F := Ideal) x0 x1 x2 = k1_pay1 x2 x0 x1 := by
  unfold out1_3
  frame_out

/-- The mixed branches the first call leaves. -/
theorem final0 : (dat0 (V1 m ρ) c).arrAt 6 cfg0.N
    = fun i : S16384x2048.Idx => mixed (Of m c) (Og m c) (P m c) (Wf m c) (Wg m c) (i 0) (i 1) := by
  refine (dat0 (V1 m ρ) c).arrAt_eq_of_covers 6 _ (by decide +kernel) fun t hf y => ?_
  blk_simp; rw [after0_6, out0]
  obtain ⟨r, hr⟩ : ∃ r : Fin 512, r.val = y 0 := ⟨⟨y 0, (y 0).isLt⟩, rfl⟩
  obtain ⟨n, hn⟩ : ∃ n : Fin 512, n.val = y 1 := ⟨⟨y 1, (y 1).isLt⟩, rfl⟩
  have hy : (((View.whole main_v7).slice (win0_6.rect t)).emb y) = ix2 (row t r) (col t n) := by blk_ext [row, col, idx_val0 t]
  have ey : y = (ix2 r n : S512x512.Idx) := by blk_ext
  rw [hy]
  refine (congrArg _ ey).trans ((pay0 _ _ _ _ _ _ r n).trans ?_)
  simp only [iblk0_0, iblk0_1, iblk0_2, iblk0_3, iblk0_4, iblk0_5]
  rfl

/-! ## What the second call finds -/

theorem V2_v7 (R : Fin 16384) (n : Fin 2048) :
    V2 m ρ c main_v7 (ix2 R n) = mixed (Of m c) (Og m c) (P m c) (Wf m c) (Wg m c) R n :=
  (congrFun (W2_arr m ρ c 6) (ix2 R n)).trans (congrFun (final0 m ρ c) (ix2 R n))

theorem V2_v5 (k n : Fin 2048) : V2 m ρ c main_v5 (ix2 k n) = Wo m c (ix3 0 k n) :=
  (congrFun (W2_of_ne m ρ c main_v5 (by decide)) (ix2 k n)).trans (V1_v5 m ρ c k n)

theorem V2_v6 (R : Fin 16384) (n : Fin 2048) :
    V2 m ρ c main_v6 (ix2 R n) = X m c (ix3 ⟨R / 2048, by omega⟩ ⟨R % 2048, by omega⟩ n) :=
  (congrFun (W2_of_ne m ρ c main_v6 (by decide)) (ix2 R n)).trans (V1_v6 m ρ c R n)

section Second
variable (t : Fin cfg1.N)

theorem iblk1_0 (r : Fin 512) (k : Fin 2048) :
    iblk1 (V2 m ρ) c 0 t (ix2 r k) = mixed (Of m c) (Og m c) (P m c) (Wf m c) (Wg m c) (row t r) k := by
  rw [← V2_v7 m ρ c]; have := point_lt1 t; blk_point [iblk1, row, idx_val1 t]

theorem iblk1_1 (k : Fin 2048) (n : Fin 512) : iblk1 (V2 m ρ) c 1 t (ix2 k n) = Wo m c (ix3 0 k (col t n)) := by
  rw [← V2_v5 m ρ c]; have := point_lt1 t; blk_point [iblk1, col, idx_val1 t]

theorem iblk1_2 (r n : Fin 512) :
    iblk1 (V2 m ρ) c 2 t (ix2 r n) = X m c (ix3 ⟨(row t r).val / 2048, by omega⟩ ⟨(row t r).val % 2048, by omega⟩ (col t n)) := by
  rw [← V2_v6 m ρ c]; have := point_lt1 t; blk_point [iblk1, row, col, idx_val1 t]
end Second

/-- The new residual the second call leaves. -/
theorem final1 : (dat1 (V2 m ρ) c).arrAt 3 cfg1.N
    = fun i : S16384x2048.Idx => merged (X m c) (Of m c) (Og m c) (P m c) (Wf m c) (Wg m c) (Wo m c) (i 0) (i 1) := by
  refine (dat1 (V2 m ρ) c).arrAt_eq_of_covers 3 _ (by decide +kernel) fun t hf y => ?_
  blk_simp; rw [after1_3, out1]
  obtain ⟨r, hr⟩ : ∃ r : Fin 512, r.val = y 0 := ⟨⟨y 0, (y 0).isLt⟩, rfl⟩
  obtain ⟨n, hn⟩ : ∃ n : Fin 512, n.val = y 1 := ⟨⟨y 1, (y 1).isLt⟩, rfl⟩
  have hy : (((View.whole main_v8).slice (win1_3.rect t)).emb y) = ix2 (row t r) (col t n) := by blk_ext [row, col, idx_val1 t]
  have ey : y = (ix2 r n : S512x512.Idx) := by blk_ext
  rw [hy]
  refine (congrArg _ ey).trans ((pay1 _ _ _ r n).trans ?_)
  simp only [iblk1_0, iblk1_1, iblk1_2]
  rfl

/-- The merge's result is the reference's. -/
theorem result : W3 m ρ c (Proc.devRef .tc main_v8)
    = Cert.MergeRefIdeal.Read.val_main_v14 (F := Ideal) (X m c) (Of m c) (Og m c) (P m c) (Wf m c) (Wg m c) (Wo m c) := by
  refine (W3_arr m ρ c 3).trans ((final1 m ρ c).trans ?_)
  funext i
  idx_vars i
  exact (v14 _ _ _ _ _ _ _ _ _).symm

end Cert.MergeIdeal.Step

end
-- ==== Proof.Merge.Run.lean ====
/- Every execution of the merge ends with the new residual in its result and its arguments as launched. -/
module

public import proofs.«01_k».proof.Proof.Merge.Final

@[expose] public section

set_option maxRecDepth 16384

noncomputable section

namespace Cert.MergeIdeal.Step

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The merge's run, from any memory with zero counters: the launch of its two calls with the host operations before them (set up as
    in the frame's proof), every buffer read at the end. The result is the reference's function of the arguments. -/
theorem run : θ_run defs (onTc (τ := τ) (main (F := Ideal))) ⟨m, fun _ => 0, ρ⟩ (fun r => ∀ c : Dev nD,
      r.2.mem ((c.tc : Thread nD τ).loc main_v8)
        = Cert.MergeRefIdeal.Read.val_main_v14 (F := Ideal) (X m c) (Of m c) (Og m c) (P m c) (Wf m c) (Wg m c) (Wo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v8 (by decide))).trans (result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.MergeIdeal.Step

end
-- ==== Proof.Ple.Math.lean ====
/- The per-layer embedding of one token over the extended reals. No program is mentioned here. -/
module

public import proofs.«01_k».proof.Proof.Proj.Math

@[expose] public section

set_option maxRecDepth 16384

noncomputable section

namespace Cert.Embed

open Cert.InProj

/-- A token's row `x` with its embedding `p` added in column `n`, gated by the normalised row: `w` and `wp` are column `n` of the two
    weights. -/
def embed (x g : Fin 2048 → EReal) (p : Fin 256 → EReal) (w : Fin 2048 → EReal) (wp : Fin 256 → EReal) (n : Fin 2048) : EReal :=
  x n + sigm (dotCol (normRow x g) w) * ∑ d, p d * wp d

end Cert.Embed

end
-- ==== Proof.Ple.Ref.lean ====
/- The reference of the per-layer embedding of the prompt, read at an index. -/
module

public import proofs.«01_k».proof.Proof.Gen.PleRefIdeal.Read
public import proofs.«01_k».proof.Proof.Ple.Math

@[expose] public section

set_option maxRecDepth 16384

noncomputable section

open Idealize.ShloMosaic Idealize.ShloMosaic.TcCoe Idealize.SL.Sem

namespace Cert.PleIdeal.Ref

open Cert.PleRefIdeal Cert.PleRefIdeal.Gen Cert.PleRefIdeal.Read Cert.InProj Cert.Embed

variable (X : FVec Ideal S16384x2048 .f32) (P : FVec Ideal S1x8x2048x256 .f32) (G : FVec Ideal S1x2048 .f32)
  (Wp : FVec Ideal S1x256x2048 .f32) (W : FVec Ideal S1x2048x2048 .f32)

/-- The normalised row. -/
theorem v14 (b : Fin 8) (l : Fin 2048) (k : Fin 2048) : val_main_v14 (F := Ideal) X G (ix3 b l k)
    = normRow (fun i => X (ix2 ⟨b * 2048 + l, by omega⟩ i)) (fun i => G (ix2 0 i)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate's argument. -/
theorem v16 (b : Fin 8) (l : Fin 2048) (n : Fin 2048) : val_main_v16 (F := Ideal) X G W (ix3 b l n)
    = dotCol (normRow (fun i => X (ix2 ⟨b * 2048 + l, by omega⟩ i)) (fun i => G (ix2 0 i))) (fun k => W (ix3 0 k n)) := by
  pointwise [val_main_v16, val_main_v15]
  simp only [v14]
  rfl

/-- The reference's result. -/
theorem v27 (b : Fin 8) (l : Fin 2048) (n : Fin 2048) : val_main_v27 (F := Ideal) X P G Wp W (ix3 b l n)
    = embed (fun i => X (ix2 ⟨b * 2048 + l, by omega⟩ i)) (fun i => G (ix2 0 i)) (fun d => P (ix4 0 b l d))
        (fun k => W (ix3 0 k n)) (fun d => Wp (ix3 0 d n)) n := by
  pointwise [val_main_v27, val_main_v26, val_main_v25, val_main_v24, val_main_v23, val_main_v22, val_main_v21, val_main_v20, val_main_v19, val_main_v18, val_main_v17, val_main_v0, val_main_cst_2, val_main_cst_3]
  simp only [v16]
  rfl

end Cert.PleIdeal.Ref

end
-- ==== Proof.Ple.Blocks.lean ====
/- The blocks the per-layer embedding's kernel reads at a grid point (a tile of 512 tokens by 512 columns), as the arguments, and what it
   computes from them. -/
module

public import proofs.«01_k».proof.Proof.Gen.PleIdeal.Frame
public import proofs.«01_k».proof.Proof.Ple.Ref
public import Idealize.ShloMosaic.Lib.Pipeline.ValueKit
public import Idealize.ShloMosaic.Lib.Pipeline.ValueKit.Held
public import Idealize.ShloMosaic.Lib.Pipeline.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Step

open Cert.PleIdeal Cert.PleIdeal.Gen Cert.InProj Cert.Embed

variable (m : (ℓ : Loc nD τ sig) → Buf (Elt Ideal) ℓ)

/-- Every window's block index at every grid point. -/
theorem idx_val : ∀ t : Fin cfg0.N, win0_0.index t = ![t.val / 4, 0]
    ∧ win0_1.index t = ![0, 0]
    ∧ win0_2.index t = ![0, t.val % 4]
    ∧ win0_3.index t = ![t.val / 4, t.val % 4]
    ∧ win0_4.index t = ![t.val / 4, 0]
    ∧ win0_5.index t = ![0, t.val % 4]
    ∧ win0_6.index t = ![t.val / 4, t.val % 4] :=
  (by decide +kernel : ∀ t : Fin grid0.N, _)

theorem point_lt (t : Fin cfg0.N) : t.val < 128 := t.isLt

variable (c : Dev nD) (t : Fin cfg0.N)

/-- The kernel's arguments. -/
abbrev X := m ((c : Thread nD τ).loc main_arg0)
abbrev P := m ((c : Thread nD τ).loc main_arg1)
abbrev G := m ((c : Thread nD τ).loc main_arg2)
abbrev Wp := m ((c : Thread nD τ).loc main_arg3)
abbrev W := m ((c : Thread nD τ).loc main_arg4)

/-! ## What the host operations before the call leave -/

theorem V_x : V m c main_arg0 = X m c := V_main_arg0 m c
theorem V3 (k : Fin 2048) : V m c main_v3 (ix2 0 k) = G m c (ix2 0 k) := by
  show StableHlo.after hostOps0 (fun b => m (c, b)) (Proc.devRef .tc main_v3) (ix2 0 k) = _
  after_results; pointwise
theorem V5 (d : Fin 256) (n : Fin 2048) : V m c main_v5 (ix2 d n) = Wp m c (ix3 0 d n) := by
  show StableHlo.after hostOps0 (fun b => m (c, b)) (Proc.devRef .tc main_v5) (ix2 d n) = _
  after_results; pointwise
theorem V7 (k n : Fin 2048) : V m c main_v7 (ix2 k n) = W m c (ix3 0 k n) := by
  show StableHlo.after hostOps0 (fun b => m (c, b)) (Proc.devRef .tc main_v7) (ix2 k n) = _
  after_results; pointwise
theorem V8 (R : Fin 16384) (d : Fin 256) : V m c main_v8 (ix2 R d) = P m c (ix4 0 ⟨R / 2048, by omega⟩ ⟨R % 2048, by omega⟩ d) := by
  show StableHlo.after hostOps0 (fun b => m (c, b)) (Proc.devRef .tc main_v8) (ix2 R d) = _
  after_results; pointwise

/-! ## The blocks of a grid point -/

/-- The token at row `r` of the point's tile. -/
def row (r : Fin 512) : Fin 16384 := ⟨t.val / 4 * 512 + r, by have := point_lt t; omega⟩
/-- The column at lane `n` of the point's tile. -/
def col (n : Fin 512) : Fin 2048 := ⟨t.val % 4 * 512 + n, by omega⟩

theorem iblk0 (r : Fin 512) (k : Fin 2048) : iblk m c 0 t (ix2 r k) = X m c (ix2 (row t r) k) := by
  rw [← V_x m c]; have := point_lt t; blk_point [iblk, row, idx_val t]
theorem iblk1 (k : Fin 2048) : iblk m c 1 t (ix2 0 k) = G m c (ix2 0 k) := by
  rw [← V3 m c]; blk_point [iblk, idx_val t]
theorem iblk2 (k : Fin 2048) (n : Fin 512) : iblk m c 2 t (ix2 k n) = W m c (ix3 0 k (col t n)) := by
  rw [← V7 m c]; blk_point [iblk, col, idx_val t]
theorem iblk3 (r : Fin 512) (n : Fin 512) : iblk m c 3 t (ix2 r n) = X m c (ix2 (row t r) (col t n)) := by
  rw [← V_x m c]; have := point_lt t; blk_point [iblk, row, col, idx_val t]
theorem iblk4 (r : Fin 512) (d : Fin 256) : iblk m c 4 t (ix2 r d)
    = P m c (ix4 0 ⟨(row t r).val / 2048, by omega⟩ ⟨(row t r).val % 2048, by omega⟩ d) := by
  rw [← V8 m c]; have := point_lt t; blk_point [iblk, row, idx_val t]
theorem iblk5 (d : Fin 256) (n : Fin 512) : iblk m c 5 t (ix2 d n) = Wp m c (ix3 0 d (col t n)) := by
  rw [← V5 m c]; blk_point [iblk, col, idx_val t]

/-! ## The kernel's values -/

/-- The normalised tile. -/
theorem pay1 (x : S512x2048.Idx → EReal) (g : S1x2048.Idx → EReal) (r : Fin 512) (k : Fin 2048) :
    k0_pay1 (F := Ideal) x g (ix2 r k) = normRow (fun i => x (ix2 r i)) (fun i => g (ix2 0 i)) k := by
  pointwise [k0_pay1]
  rfl

/-- The stored tile, over the kept normalised one. -/
theorem pay2 (h : S512x2048.Idx → EReal) (w : S2048x512.Idx → EReal) (x : S512x512.Idx → EReal) (p : S512x256.Idx → EReal)
    (wp : S256x512.Idx → EReal) (r : Fin 512) (n : Fin 512) :
    k0_pay2 (F := Ideal) h w x p wp (ix2 r n)
      = x (ix2 r n) + sigm (dotCol (fun k => h (ix2 r k)) (fun k => w (ix2 k n))) * ∑ d : Fin 256, p (ix2 r d) * wp (ix2 d n) := by
  pointwise [k0_pay2]
  rw [zero_sub]
  rfl

end Cert.PleIdeal.Step

end
-- ==== Proof.Ple.Final.lean ====
/- The per-layer embedding of the prompt: the kernel keeps the normalised tokens, and its result is the reference's. -/
module

public import proofs.«01_k».proof.Proof.Ple.Blocks

@[expose] public section

set_option maxRecDepth 16384

noncomputable section

open Idealize.ShloMosaic Idealize.ShloMosaic.TcCoe Idealize.SL.Sem
open Idealize.ShloMosaic.Pipeline (Dat)

namespace Cert.PleIdeal.Step

open Cert.PleIdeal Cert.PleIdeal.Gen Cert.InProj Cert.Embed

variable (m : (ℓ : Loc nD τ sig) → Buf (Elt Ideal) ℓ) (c : Dev nD)

section Point
variable (t : Fin cfg0.N)

theorem sc_first (h : t.val % 4 = 0) (i) : (outsAt0 m c t.val t.isLt).2 i = k0_pay1 (F := Ideal) (iblk m c 0 t) (iblk m c 1 t) i := by
  rw [outsAt0_A m c t h]
  frame_out

theorem sc_keep (h : ¬ t.val % 4 = 0) (i) : (outsAt0 m c t.val t.isLt).2 i
    = (outsAt0 m c (t.val - 1) (Nat.lt_of_le_of_lt (Nat.sub_le _ _) t.isLt)).2 i := by
  rw [outsAt0_B m c t h]
  frame_out; rfl

/-- At every grid point the scratch holds the tile's normalised tokens. -/
theorem sc (r : Fin 512) (k : Fin 2048) : (outsAt0 m c t.val t.isLt).2 (ix2 r k)
    = normRow (fun i => X m c (ix2 (row t r) i)) (fun i => G m c (ix2 0 i)) k := by
  rw [Pipeline.eq_of_write_hold_apply (fun n h => (outsAt0 m c n h).2) 4
    (fun t => k0_pay1 (F := Ideal) (iblk m c 0 t) (iblk m c 1 t)) (sc_first m c) (sc_keep m c) t]
  refine (pay1 _ _ r k).trans ?_
  have e : row ⟨4 * (t.val / 4), Pipeline.run_start_lt t⟩ r = row t r := Fin.ext (by simp only [row]; omega)
  congr 1
  · funext i; rw [iblk0, e]
  · funext i; rw [iblk1]

/-- The layer's result at a token and a column. -/
def stored (R : Fin 16384) (n : Fin 2048) : EReal :=
  embed (fun i => X m c (ix2 R i)) (fun i => G m c (ix2 0 i)) (fun d => P m c (ix4 0 ⟨R / 2048, by omega⟩ ⟨R % 2048, by omega⟩ d))
    (fun k => W m c (ix3 0 k n)) (fun d => Wp m c (ix3 0 d n)) n

/-- A tile computed from the kept tokens holds the layer's results. -/
theorem tile (h : S512x2048.Idx → EReal) (hh : ∀ r k, h (ix2 r k) = (outsAt0 m c t.val t.isLt).2 (ix2 r k)) (r : Fin 512) (n : Fin 512) :
    k0_pay2 (F := Ideal) h (iblk m c 2 t) (iblk m c 3 t) (iblk m c 4 t) (iblk m c 5 t) (ix2 r n) = stored m c (row t r) (col t n) := by
  refine (pay2 _ _ _ _ _ r n).trans ?_
  simp only [hh, sc, iblk2, iblk3, iblk4, iblk5]
  rfl

/-- What the kernel stores at a point. -/
theorem out (r : Fin 512) (n : Fin 512) : (outsAt0 m c t.val t.isLt).1 (ix2 r n) = stored m c (row t r) (col t n) := by
  by_cases h : t.val % 4 = 0
  · have hk := sc_first m c t h
    rw [outsAt0_A m c t h]
    frame_out
    exact tile m c t _ (fun r k => (hk _).symm) r n
  · have hk := sc_keep m c t h
    rw [outsAt0_B m c t h]
    frame_out
    exact tile m c t _ (fun r k => (congrFun ((Memref.isWhole_whole _).read_unread _) _).trans (hk _).symm) r n
end Point

/-- The kernel's output array. -/
theorem final_6 : (dats m 0 c).arrAt 6 (cfgs 0).N = fun i : S16384x2048.Idx => stored m c (i 0) (i 1) := by
  refine (dats m 0 c).arrAt_eq_of_covers 6 _ (by decide +kernel) fun t hf y => ?_
  blk_simp; rw [after0_6]
  obtain ⟨r, hr⟩ : ∃ r : Fin 512, r.val = y 0 := ⟨⟨y 0, (y 0).isLt⟩, rfl⟩
  obtain ⟨n, hn⟩ : ∃ n : Fin 512, n.val = y 1 := ⟨⟨y 1, (y 1).isLt⟩, rfl⟩
  have hy : (((View.whole main_v9).slice (win0_6.rect t)).emb y) = ix2 (row t r) (col t n) := by
    blk_ext [row, col, idx_val t]
  have ey : y = (ix2 r n : S512x512.Idx) := by blk_ext
  rw [hy]
  exact (congrArg _ ey).trans (out m c t r n)

/-- The buffers' contents after the operation that follows the call. -/
abbrev tail (b : Ref sig .tc) := Pipeline.afterTail₀ cfgs (dats m) 0 (V0 m) [hostOps1] c b

/-- The buffers' contents when the call ends. -/
abbrev exitW := Pipeline.withArrays (cfgs 0).spec c (V0 m c) fun w => (dats m 0 c).arrAt w (cfgs 0).N

/-- The call's result, by row and column. -/
theorem exit_out : exitW m c (Proc.devRef .tc main_v9) = fun i : S16384x2048.Idx => stored m c (i 0) (i 1) :=
  ((dats m 0 c).withArrays_arrAt launch₀0.sharedIn (V0 m c) (A_eq m c) 6).trans (final_6 m c)

theorem tail_eq (b : Ref sig .tc) : tail m c b = StableHlo.after hostOps1 (exitW m c) (Proc.devRef .tc b) := rfl

/-- The kernel's result is the reference's. -/
theorem tail_v10 : tail m c main_v10 = PleRefIdeal.Read.val_main_v27 (F := Ideal) (X m c) (P m c) (G m c) (Wp m c) (W m c) := by
  rw [tail_eq]
  generalize hE : exitW m c = E
  have hP := exit_out m c
  rw [hE] at hP
  after_results
  rw [hP]
  funext i
  idx_vars i
  refine Eq.trans ?_ (Ref.v27 _ _ _ _ _ _ _ _).symm
  pointwise
  unfold stored
  have e1 : (⟨(i0.val * 2048 + i1.val) / 2048, by omega⟩ : Fin 8) = i0 := Fin.ext (by simp only; omega)
  have e2 : (⟨(i0.val * 2048 + i1.val) % 2048, by omega⟩ : Fin 2048) = i1 := Fin.ext (by simp only; omega)
  simp only [e1, e2]

/-- Every run of the embedding ends with the reference's result in the kernel's result array, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v10) = PleRefIdeal.Read.val_main_v27 (F := Ideal) (X m c) (P m c) (G m c) (Wp m c) (W m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h c => ⟨((h.2 c).2 _ (by decide)).trans (tail_v10 m c), h.1.1 c⟩) (θ_run_and (frame m ρ) (run_main m ρ))

end Cert.PleIdeal.Step

end
-- ==== Proof.PleSample.Ref.lean ====
/- The reference of the per-layer embedding of the sampled tokens, read at an index. -/
module

public import proofs.«01_k».proof.Proof.Gen.PleSampleRefIdeal.Read
public import proofs.«01_k».proof.Proof.Ple.Math

@[expose] public section

set_option maxRecDepth 16384

noncomputable section

open Idealize.ShloMosaic Idealize.ShloMosaic.TcCoe Idealize.SL.Sem

namespace Cert.PleSampleIdeal.Ref

open Cert.PleSampleRefIdeal Cert.PleSampleRefIdeal.Gen Cert.PleSampleRefIdeal.Read Cert.InProj Cert.Embed

variable (X : FVec Ideal S32x2048 .f32) (P : FVec Ideal S1x32x1x256 .f32) (G : FVec Ideal S1x2048 .f32)
  (Wp : FVec Ideal S1x256x2048 .f32) (W : FVec Ideal S1x2048x2048 .f32)

/-- The normalised row. -/
theorem v14 (b : Fin 32) (k : Fin 2048) : val_main_v14 (F := Ideal) X G (ix3 b 0 k)
    = normRow (fun i => X (ix2 b i)) (fun i => G (ix2 0 i)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate's argument. -/
theorem v16 (b : Fin 32) (n : Fin 2048) : val_main_v16 (F := Ideal) X G W (ix3 b 0 n)
    = dotCol (normRow (fun i => X (ix2 b i)) (fun i => G (ix2 0 i))) (fun k => W (ix3 0 k n)) := by
  pointwise [val_main_v16, val_main_v15]
  simp only [v14]
  rfl

/-- The reference's result. -/
theorem v27 (b : Fin 32) (n : Fin 2048) : val_main_v27 (F := Ideal) X P G Wp W (ix3 b 0 n)
    = embed (fun i => X (ix2 b i)) (fun i => G (ix2 0 i)) (fun d => P (ix4 0 b 0 d))
        (fun k => W (ix3 0 k n)) (fun d => Wp (ix3 0 d n)) n := by
  pointwise [val_main_v27, val_main_v26, val_main_v25, val_main_v24, val_main_v23, val_main_v22, val_main_v21, val_main_v20, val_main_v19, val_main_v18, val_main_v17, val_main_v0, val_main_cst_2, val_main_cst_3]
  simp only [v16]
  rfl

end Cert.PleSampleIdeal.Ref

end
-- ==== Proof.PleSample.Blocks.lean ====
/- The blocks the per-layer embedding's kernel reads at a grid point (a tile of 32 tokens by 512 columns), as the arguments, and what it
   computes from them. -/
module

public import proofs.«01_k».proof.Proof.Gen.PleSampleIdeal.Frame
public import proofs.«01_k».proof.Proof.PleSample.Ref
public import Idealize.ShloMosaic.Lib.Pipeline.ValueKit
public import Idealize.ShloMosaic.Lib.Pipeline.ValueKit.Held
public import Idealize.ShloMosaic.Lib.Pipeline.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleSampleIdeal.Step

open Cert.PleSampleIdeal Cert.PleSampleIdeal.Gen Cert.InProj Cert.Embed

variable (m : (ℓ : Loc nD τ sig) → Buf (Elt Ideal) ℓ)

/-- Every window's block index at every grid point. -/
theorem idx_val : ∀ t : Fin cfg0.N, win0_0.index t = ![t.val / 4, 0]
    ∧ win0_1.index t = ![0, 0]
    ∧ win0_2.index t = ![0, t.val % 4]
    ∧ win0_3.index t = ![t.val / 4, t.val % 4]
    ∧ win0_4.index t = ![t.val / 4, 0]
    ∧ win0_5.index t = ![0, t.val % 4]
    ∧ win0_6.index t = ![t.val / 4, t.val % 4] :=
  (by decide +kernel : ∀ t : Fin grid0.N, _)

theorem point_lt (t : Fin cfg0.N) : t.val < 4 := t.isLt

variable (c : Dev nD) (t : Fin cfg0.N)

/-- The kernel's arguments. -/
abbrev X := m ((c : Thread nD τ).loc main_arg0)
abbrev P := m ((c : Thread nD τ).loc main_arg1)
abbrev G := m ((c : Thread nD τ).loc main_arg2)
abbrev Wp := m ((c : Thread nD τ).loc main_arg3)
abbrev W := m ((c : Thread nD τ).loc main_arg4)

/-! ## What the host operations before the call leave -/

theorem V_x : V m c main_arg0 = X m c := V_main_arg0 m c
theorem V3 (k : Fin 2048) : V m c main_v3 (ix2 0 k) = G m c (ix2 0 k) := by
  show StableHlo.after hostOps0 (fun b => m (c, b)) (Proc.devRef .tc main_v3) (ix2 0 k) = _
  after_results; pointwise
theorem V5 (d : Fin 256) (n : Fin 2048) : V m c main_v5 (ix2 d n) = Wp m c (ix3 0 d n) := by
  show StableHlo.after hostOps0 (fun b => m (c, b)) (Proc.devRef .tc main_v5) (ix2 d n) = _
  after_results; pointwise
theorem V7 (k n : Fin 2048) : V m c main_v7 (ix2 k n) = W m c (ix3 0 k n) := by
  show StableHlo.after hostOps0 (fun b => m (c, b)) (Proc.devRef .tc main_v7) (ix2 k n) = _
  after_results; pointwise
theorem V8 (R : Fin 32) (d : Fin 256) : V m c main_v8 (ix2 R d) = P m c (ix4 0 R 0 d) := by
  show StableHlo.after hostOps0 (fun b => m (c, b)) (Proc.devRef .tc main_v8) (ix2 R d) = _
  after_results; pointwise

/-! ## The blocks of a grid point -/

/-- The token at row `r` of the point's tile. -/
def row (r : Fin 32) : Fin 32 := ⟨t.val / 4 * 32 + r, by have := point_lt t; omega⟩
/-- The column at lane `n` of the point's tile. -/
def col (n : Fin 512) : Fin 2048 := ⟨t.val % 4 * 512 + n, by omega⟩

theorem iblk0 (r : Fin 32) (k : Fin 2048) : iblk m c 0 t (ix2 r k) = X m c (ix2 (row t r) k) := by
  rw [← V_x m c]; have := point_lt t; blk_point [iblk, row, idx_val t]
theorem iblk1 (k : Fin 2048) : iblk m c 1 t (ix2 0 k) = G m c (ix2 0 k) := by
  rw [← V3 m c]; blk_point [iblk, idx_val t]
theorem iblk2 (k : Fin 2048) (n : Fin 512) : iblk m c 2 t (ix2 k n) = W m c (ix3 0 k (col t n)) := by
  rw [← V7 m c]; blk_point [iblk, col, idx_val t]
theorem iblk3 (r : Fin 32) (n : Fin 512) : iblk m c 3 t (ix2 r n) = X m c (ix2 (row t r) (col t n)) := by
  rw [← V_x m c]; have := point_lt t; blk_point [iblk, row, col, idx_val t]
theorem iblk4 (r : Fin 32) (d : Fin 256) : iblk m c 4 t (ix2 r d)
    = P m c (ix4 0 (row t r) 0 d) := by
  rw [← V8 m c]; have := point_lt t; blk_point [iblk, row, idx_val t]
theorem iblk5 (d : Fin 256) (n : Fin 512) : iblk m c 5 t (ix2 d n) = Wp m c (ix3 0 d (col t n)) := by
  rw [← V5 m c]; blk_point [iblk, col, idx_val t]

/-! ## The kernel's values -/

/-- The normalised tile. -/
theorem pay1 (x : S32x2048.Idx → EReal) (g : S1x2048.Idx → EReal) (r : Fin 32) (k : Fin 2048) :
    k0_pay1 (F := Ideal) x g (ix2 r k) = normRow (fun i => x (ix2 r i)) (fun i => g (ix2 0 i)) k := by
  pointwise [k0_pay1]
  rfl

/-- The stored tile, over the kept normalised one. -/
theorem pay2 (h : S32x2048.Idx → EReal) (w : S2048x512.Idx → EReal) (x : S32x512.Idx → EReal) (p : S32x256.Idx → EReal)
    (wp : S256x512.Idx → EReal) (r : Fin 32) (n : Fin 512) :
    k0_pay2 (F := Ideal) h w x p wp (ix2 r n)
      = x (ix2 r n) + sigm (dotCol (fun k => h (ix2 r k)) (fun k => w (ix2 k n))) * ∑ d : Fin 256, p (ix2 r d) * wp (ix2 d n) := by
  pointwise [k0_pay2]
  rw [zero_sub]
  rfl

end Cert.PleSampleIdeal.Step

end
-- ==== Proof.PleSample.Final.lean ====
/- The per-layer embedding of the sampled tokens: the kernel keeps the normalised tokens, and its result is the reference's. -/
module

public import proofs.«01_k».proof.Proof.PleSample.Blocks

@[expose] public section

set_option maxRecDepth 16384

noncomputable section

open Idealize.ShloMosaic Idealize.ShloMosaic.TcCoe Idealize.SL.Sem
open Idealize.ShloMosaic.Pipeline (Dat)

namespace Cert.PleSampleIdeal.Step

open Cert.PleSampleIdeal Cert.PleSampleIdeal.Gen Cert.InProj Cert.Embed

variable (m : (ℓ : Loc nD τ sig) → Buf (Elt Ideal) ℓ) (c : Dev nD)

section Point
variable (t : Fin cfg0.N)

theorem sc_first (h : t.val % 4 = 0) (i) : (outsAt0 m c t.val t.isLt).2 i = k0_pay1 (F := Ideal) (iblk m c 0 t) (iblk m c 1 t) i := by
  rw [outsAt0_A m c t h]
  frame_out

theorem sc_keep (h : ¬ t.val % 4 = 0) (i) : (outsAt0 m c t.val t.isLt).2 i
    = (outsAt0 m c (t.val - 1) (Nat.lt_of_le_of_lt (Nat.sub_le _ _) t.isLt)).2 i := by
  rw [outsAt0_B m c t h]
  frame_out; rfl

/-- At every grid point the scratch holds the tile's normalised tokens. -/
theorem sc (r : Fin 32) (k : Fin 2048) : (outsAt0 m c t.val t.isLt).2 (ix2 r k)
    = normRow (fun i => X m c (ix2 (row t r) i)) (fun i => G m c (ix2 0 i)) k := by
  rw [Pipeline.eq_of_write_hold_apply (fun n h => (outsAt0 m c n h).2) 4
    (fun t => k0_pay1 (F := Ideal) (iblk m c 0 t) (iblk m c 1 t)) (sc_first m c) (sc_keep m c) t]
  refine (pay1 _ _ r k).trans ?_
  have e : row ⟨4 * (t.val / 4), Pipeline.run_start_lt t⟩ r = row t r := Fin.ext (by simp only [row]; omega)
  congr 1
  · funext i; rw [iblk0, e]
  · funext i; rw [iblk1]

/-- The layer's result at a token and a column. -/
def stored (R : Fin 32) (n : Fin 2048) : EReal :=
  embed (fun i => X m c (ix2 R i)) (fun i => G m c (ix2 0 i)) (fun d => P m c (ix4 0 R 0 d))
    (fun k => W m c (ix3 0 k n)) (fun d => Wp m c (ix3 0 d n)) n

/-- A tile computed from the kept tokens holds the layer's results. -/
theorem tile (h : S32x2048.Idx → EReal) (hh : ∀ r k, h (ix2 r k) = (outsAt0 m c t.val t.isLt).2 (ix2 r k)) (r : Fin 32) (n : Fin 512) :
    k0_pay2 (F := Ideal) h (iblk m c 2 t) (iblk m c 3 t) (iblk m c 4 t) (iblk m c 5 t) (ix2 r n) = stored m c (row t r) (col t n) := by
  refine (pay2 _ _ _ _ _ r n).trans ?_
  simp only [hh, sc, iblk2, iblk3, iblk4, iblk5]
  rfl

/-- What the kernel stores at a point. -/
theorem out (r : Fin 32) (n : Fin 512) : (outsAt0 m c t.val t.isLt).1 (ix2 r n) = stored m c (row t r) (col t n) := by
  by_cases h : t.val % 4 = 0
  · have hk := sc_first m c t h
    rw [outsAt0_A m c t h]
    frame_out
    exact tile m c t _ (fun r k => (hk _).symm) r n
  · have hk := sc_keep m c t h
    rw [outsAt0_B m c t h]
    frame_out
    exact tile m c t _ (fun r k => (congrFun ((Memref.isWhole_whole _).read_unread _) _).trans (hk _).symm) r n
end Point

/-- The kernel's output array. -/
theorem final_6 : (dats m 0 c).arrAt 6 (cfgs 0).N = fun i : S32x2048.Idx => stored m c (i 0) (i 1) := by
  refine (dats m 0 c).arrAt_eq_of_covers 6 _ (by decide +kernel) fun t hf y => ?_
  blk_simp; rw [after0_6]
  obtain ⟨r, hr⟩ : ∃ r : Fin 32, r.val = y 0 := ⟨⟨y 0, (y 0).isLt⟩, rfl⟩
  obtain ⟨n, hn⟩ : ∃ n : Fin 512, n.val = y 1 := ⟨⟨y 1, (y 1).isLt⟩, rfl⟩
  have hy : (((View.whole main_v9).slice (win0_6.rect t)).emb y) = ix2 (row t r) (col t n) := by
    blk_ext [row, col, idx_val t]
  have ey : y = (ix2 r n : S32x512.Idx) := by blk_ext
  rw [hy]
  exact (congrArg _ ey).trans (out m c t r n)

/-- The buffers' contents after the operation that follows the call. -/
abbrev tail (b : Ref sig .tc) := Pipeline.afterTail₀ cfgs (dats m) 0 (V0 m) [hostOps1] c b

/-- The buffers' contents when the call ends. -/
abbrev exitW := Pipeline.withArrays (cfgs 0).spec c (V0 m c) fun w => (dats m 0 c).arrAt w (cfgs 0).N

/-- The call's result, by row and column. -/
theorem exit_out : exitW m c (Proc.devRef .tc main_v9) = fun i : S32x2048.Idx => stored m c (i 0) (i 1) :=
  ((dats m 0 c).withArrays_arrAt launch₀0.sharedIn (V0 m c) (A_eq m c) 6).trans (final_6 m c)

theorem tail_eq (b : Ref sig .tc) : tail m c b = StableHlo.after hostOps1 (exitW m c) (Proc.devRef .tc b) := rfl

/-- The kernel's result is the reference's. -/
theorem tail_v10 : tail m c main_v10 = PleSampleRefIdeal.Read.val_main_v27 (F := Ideal) (X m c) (P m c) (G m c) (Wp m c) (W m c) := by
  rw [tail_eq]
  generalize hE : exitW m c = E
  have hP := exit_out m c
  rw [hE] at hP
  after_results
  rw [hP]
  funext i
  idx_vars i
  obtain rfl : i1 = 0 := Subsingleton.elim _ _
  refine Eq.trans ?_ (Ref.v27 _ _ _ _ _ _ _).symm
  pointwise
  rfl

/-- Every run of the embedding ends with the reference's result in the kernel's result array, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v10) = PleSampleRefIdeal.Read.val_main_v27 (F := Ideal) (X m c) (P m c) (G m c) (Wp m c) (W m c) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) :=
  (θ_run defs _ _).mono (fun r h c => ⟨((h.2 c).2 _ (by decide)).trans (tail_v10 m c), h.1.1 c⟩) (θ_run_and (frame m ρ) (run_main m ρ))

end Cert.PleSampleIdeal.Step

end
-- ==== Proof.lean ====
module

public import proofs.«01_k».proof.Defs
public import proofs.«01_k».proof.Proof.Gen.GdnSample
public import proofs.«01_k».proof.Proof.Gen.GdnSample.Skeleton
public import proofs.«01_k».proof.Proof.Gen.GdnSample.Launch
public import proofs.«01_k».proof.Proof.Gen.GdnSample.Points
public import proofs.«01_k».proof.Proof.Gen.GdnSample.Frame
public import proofs.«01_k».proof.Proof.Gen.GdnSampleIdeal
public import proofs.«01_k».proof.Proof.Gen.GdnSampleIdeal.Skeleton
public import proofs.«01_k».proof.Proof.Gen.GdnSampleIdeal.Launch
public import proofs.«01_k».proof.Proof.Gen.GdnSampleIdeal.Points
public import proofs.«01_k».proof.Proof.Gen.GdnSampleIdeal.Frame
public import proofs.«01_k».proof.Proof.Gen.GdnSampleRefIdeal
public import proofs.«01_k».proof.Proof.Gen.GdnSampleIdeal.Value
public import proofs.«01_k».proof.Proof.Gen.GdnSampleRefIdeal.Run
public import proofs.«01_k».proof.Proof.Gen.GdnSampleRefIdeal.Read
public import proofs.«01_k».proof.Proof.Gdn.Final7
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.ProjSampleRefIdeal.Run
public import proofs.«01_k».proof.Proof.Gen.ProjSampleRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.PleSample
public import proofs.«01_k».proof.Proof.Gen.PleSample.Skeleton
public import proofs.«01_k».proof.Proof.Gen.PleSample.Launch
public import proofs.«01_k».proof.Proof.Gen.PleSample.Points
public import proofs.«01_k».proof.Proof.Gen.PleSample.Frame
public import proofs.«01_k».proof.Proof.Gen.PleSampleIdeal
public import proofs.«01_k».proof.Proof.Gen.PleSampleIdeal.Skeleton
public import proofs.«01_k».proof.Proof.Gen.PleSampleIdeal.Launch
public import proofs.«01_k».proof.Proof.Gen.PleSampleIdeal.Points
public import proofs.«01_k».proof.Proof.Gen.PleSampleIdeal.Frame
public import proofs.«01_k».proof.Proof.Gen.PleSampleRefIdeal
public import proofs.«01_k».proof.Proof.Gen.PleSampleRefIdeal.Run
public import proofs.«01_k».proof.Proof.Gen.PleSampleRefIdeal.Read
public import proofs.«01_k».proof.Proof.Proj.Results
public import proofs.«01_k».proof.Proof.ProjSample.Results
public import proofs.«01_k».proof.Proof.Merge.Run
public import proofs.«01_k».proof.Proof.Ple.Final
public import proofs.«01_k».proof.Proof.PleSample.Final
public import Idealize.ShloMosaic.Lib.Claim
public import Idealize.ShloMosaic.Adequacy
public import Idealize.ShloMosaic.Init

@[expose] public section

noncomputable section

namespace Cert.Proof

open Idealize.ShloMosaic Idealize.SL.Sem Cert.GdnSample

/-- The reference of the sample group's gated DeltaNet step ends with its arguments unchanged. -/
theorem frame_GdnSampleRefIdeal : Cert.quiescent_GdnSampleRefIdeal :=
  fun m ρ _ => (θ_run _ _ _).mono (fun r h => ⟨fun c => (h c).2.2.2, sem_eq_zero_of_no_sems rfl _⟩) (Cert.GdnSampleRefIdeal.Value.run m ρ)

/-- The gated DeltaNet step of the sample group: the kernel's three results are the reference's. -/
theorem algebraic_Gdn : Cert.algebraic_GdnSampleIdeal_GdnSampleRefIdeal := by
  pair_intro
  · run_from Cert.GdnSampleIdeal.Gen.run_main m g
  · run_from Cert.GdnSampleRefIdeal.Value.run m' g'
    · obtain ⟨h0, h1, h2, h3, h4⟩ := hagree c
      rw [← h3]
      refine (Cert.GdnSampleRefIdeal.Read.val_main_v98_eq _).trans (Eq.trans ?_ (Cert.GdnSampleIdeal.Step.final_7 m c).symm)
      exact congr (congr (congr (congr (congrArg _ h0) h1) h2) h3) h4
    · obtain ⟨h0, h1, h2, h3, h4⟩ := hagree c
      refine (Cert.GdnSampleRefIdeal.Read.val_main_v79_eq _).trans (Eq.trans ?_ (Cert.GdnSampleIdeal.Step.final_8 m c).symm)
      exact congr (congr (congr (congrArg _ h0) h1) h2) h4
    · obtain ⟨h0, h1, h2, h3, h4⟩ := hagree c
      refine (Cert.GdnSampleRefIdeal.Read.val_main_v99_eq _).trans (Eq.trans ?_ (Cert.GdnSampleIdeal.Step.final_9 m c).symm)
      exact congr (congrArg _ h0) h1

/-- The reference of the input projection ends with its arguments unchanged. -/
theorem frame_ProjRefIdeal : Cert.quiescent_ProjRefIdeal :=
  fun m ρ _ => (θ_run _ _ _).mono (fun r h => ⟨fun c => (h c).2.2.2.2.2.2.2.2.2.2.2, sem_eq_zero_of_no_sems rfl _⟩) (Cert.ProjRefIdeal.Value.run m ρ)

/-- The input projection of the prompt: the kernel's eleven results are the reference's. -/
theorem algebraic_Proj : Cert.algebraic_ProjIdeal_ProjRefIdeal := by
  pair_intro
  · exact Cert.ProjIdeal.Step.run m g
  · refine (θ_run _ _ _).mono (fun r hr c => ?_) (Cert.ProjRefIdeal.Value.run m' g')
    obtain ⟨h0, h1, h2, h3, h4, h5, h6, h7⟩ := hagree c
    obtain ⟨g0, g1, g2, g3, g4, g5, g6, g7, g8, g9, g10, ga⟩ := hr c
    exact ⟨g0.trans ((Cert.ProjRefIdeal.Read.val_main_v55_eq ..).trans (congr (congr (congr (congrArg _ h0) h1) h2) h5)),
      g1.trans ((Cert.ProjRefIdeal.Read.val_main_v24_eq ..).trans (congr (congr (congrArg _ h0) h1) h2)),
      g2.trans ((Cert.ProjRefIdeal.Read.val_main_v29_eq ..).trans (congr (congr (congr (congrArg _ h0) h1) h2) h3)),
      g3.trans ((Cert.ProjRefIdeal.Read.val_main_v59_eq ..).trans (congr (congr (congrArg _ h0) h1) h2)),
      g4.trans ((Cert.ProjRefIdeal.Read.val_main_v42_eq ..).trans (congr (congr (congr (congrArg _ h0) h1) h2) h4)),
      g5.trans ((Cert.ProjRefIdeal.Read.val_main_v56_eq ..).trans (congr (congr (congrArg _ h0) h1) h2)),
      g6.trans ((Cert.ProjRefIdeal.Read.val_main_v80_eq ..).trans (congr (congr (congrArg _ h0) h1) h2)),
      g7.trans ((Cert.ProjRefIdeal.Read.val_main_v87_eq ..).trans (congr (congr (congrArg _ h0) h1) h2)),
      g8.trans ((Cert.ProjRefIdeal.Read.val_main_v94_eq ..).trans (congr (congr (congrArg _ h0) h1) h2)),
      g9.trans ((Cert.ProjRefIdeal.Read.val_main_v72_eq ..).trans (congr (congr (congr (congr (congrArg _ h0) h1) h2) h6) h7)),
      g10.trans ((Cert.ProjRefIdeal.Read.val_main_v78_eq ..).trans (congr (congr (congrArg _ h0) h1) h2)),
      ga⟩

/-- The reference of the sampled tokens' input projection ends with its arguments unchanged. -/
theorem frame_ProjSampleRefIdeal : Cert.quiescent_ProjSampleRefIdeal :=
  fun m ρ _ => (θ_run _ _ _).mono (fun r h => ⟨fun c => (h c).2.2.2.2.2.2.2.2.2.2, sem_eq_zero_of_no_sems rfl _⟩) (Cert.ProjSampleRefIdeal.Value.run m ρ)

/-- The input projection of the sampled tokens: the kernel's ten results are the reference's. -/
theorem algebraic_ProjSample : Cert.algebraic_ProjSampleIdeal_ProjSampleRefIdeal := by
  pair_intro
  · exact Cert.ProjSampleIdeal.Step.run m g
  · refine (θ_run _ _ _).mono (fun r hr c => ?_) (Cert.ProjSampleRefIdeal.Value.run m' g')
    obtain ⟨h0, h1, h2, h3, h4, h5, h6, h7⟩ := hagree c
    obtain ⟨g0, g1, g2, g3, g4, g5, g6, g7, g8, g9, ga⟩ := hr c
    exact ⟨g0.trans ((Cert.ProjSampleRefIdeal.Read.val_main_v55_eq ..).trans (congr (congr (congr (congrArg _ h0) h1) h2) h5)),
      g1.trans ((Cert.ProjSampleRefIdeal.Read.val_main_v24_eq ..).trans (congr (congr (congrArg _ h0) h1) h2)),
      g2.trans ((Cert.ProjSampleRefIdeal.Read.val_main_v29_eq ..).trans (congr (congr (congr (congrArg _ h0) h1) h2) h3)),
      g3.trans ((Cert.ProjSampleRefIdeal.Read.val_main_v42_eq ..).trans (congr (congr (congr (congrArg _ h0) h1) h2) h4)),
      g4.trans ((Cert.ProjSampleRefIdeal.Read.val_main_v56_eq ..).trans (congr (congr (congrArg _ h0) h1) h2)),
      g5.trans ((Cert.ProjSampleRefIdeal.Read.val_main_v77_eq ..).trans (congr (congr (congrArg _ h0) h1) h2)),
      g6.trans ((Cert.ProjSampleRefIdeal.Read.val_main_v84_eq ..).trans (congr (congr (congrArg _ h0) h1) h2)),
      g7.trans ((Cert.ProjSampleRefIdeal.Read.val_main_v91_eq ..).trans (congr (congr (congrArg _ h0) h1) h2)),
      g8.trans ((Cert.ProjSampleRefIdeal.Read.val_main_v69_eq ..).trans (congr (congr (congr (congr (congrArg _ h0) h1) h2) h6) h7)),
      g9.trans ((Cert.ProjSampleRefIdeal.Read.val_main_v75_eq ..).trans (congr (congr (congrArg _ h0) h1) h2)),
      ga⟩

/-- The reference of the merge ends with its arguments unchanged. -/
theorem frame_MergeRefIdeal : Cert.quiescent_MergeRefIdeal :=
  fun m ρ _ => (θ_run _ _ _).mono (fun r h => ⟨fun c => (h c).2, sem_eq_zero_of_no_sems rfl _⟩) (Cert.MergeRefIdeal.Value.run m ρ)

/-- The merge of the two branches into the residual: the kernel's result is the reference's. -/
theorem algebraic_Merge : Cert.algebraic_MergeIdeal_MergeRefIdeal := by
  pair_intro
  · exact Cert.MergeIdeal.Step.run m g
  · refine (θ_run _ _ _).mono (fun r hr c => ?_) (Cert.MergeRefIdeal.Value.run m' g')
    obtain ⟨h0, h1, h2, h3, h4, h5, h6⟩ := hagree c
    obtain ⟨g0, ga⟩ := hr c
    exact ⟨g0.trans ((Cert.MergeRefIdeal.Read.val_main_v14_eq ..).trans
      (congr (congr (congr (congr (congr (congr (congrArg _ h0) h1) h2) h3) h4) h5) h6)), ga⟩

/-- The reference of the prompt's per-layer embedding ends with its arguments unchanged. -/
theorem frame_PleRefIdeal : Cert.quiescent_PleRefIdeal :=
  fun m ρ _ => (θ_run _ _ _).mono (fun r h => ⟨fun c => (h c).2, sem_eq_zero_of_no_sems rfl _⟩) (Cert.PleRefIdeal.Value.run m ρ)

/-- The per-layer embedding of the prompt: the kernel's result is the reference's. -/
theorem algebraic_Ple : Cert.algebraic_PleIdeal_PleRefIdeal := by
  pair_intro
  · exact Cert.PleIdeal.Step.run m g
  · refine (θ_run _ _ _).mono (fun r hr c => ?_) (Cert.PleRefIdeal.Value.run m' g')
    obtain ⟨h0, h1, h2, h3, h4⟩ := hagree c
    obtain ⟨g0, ga⟩ := hr c
    exact ⟨g0.trans ((Cert.PleRefIdeal.Read.val_main_v27_eq ..).trans
      (congr (congr (congr (congr (congrArg _ h0) h1) h2) h3) h4)), ga⟩

/-- The reference of the sampled tokens' per-layer embedding ends with its arguments unchanged. -/
theorem frame_PleSampleRefIdeal : Cert.quiescent_PleSampleRefIdeal :=
  fun m ρ _ => (θ_run _ _ _).mono (fun r h => ⟨fun c => (h c).2, sem_eq_zero_of_no_sems rfl _⟩) (Cert.PleSampleRefIdeal.Value.run m ρ)

/-- The per-layer embedding of the sampled tokens: the kernel's result is the reference's. -/
theorem algebraic_PleSample : Cert.algebraic_PleSampleIdeal_PleSampleRefIdeal := by
  pair_intro
  · exact Cert.PleSampleIdeal.Step.run m g
  · refine (θ_run _ _ _).mono (fun r hr c => ?_) (Cert.PleSampleRefIdeal.Value.run m' g')
    obtain ⟨h0, h1, h2, h3, h4⟩ := hagree c
    obtain ⟨g0, ga⟩ := hr c
    exact ⟨g0.trans ((Cert.PleSampleRefIdeal.Read.val_main_v27_eq ..).trans
      (congr (congr (congr (congr (congrArg _ h0) h1) h2) h3) h4)), ga⟩

/-- Every claim, of every program. -/
theorem claim : Cert.Claim := ⟨Cert.GdnSample.Gen.facts, Cert.GdnSampleIdeal.Gen.facts, Cert.GdnSampleRefIdeal.Gen.facts,
  Cert.Proj.Gen.facts, Cert.ProjIdeal.Gen.facts, Cert.ProjRefIdeal.Gen.facts,
  Cert.ProjSample.Gen.facts, Cert.ProjSampleIdeal.Gen.facts, Cert.ProjSampleRefIdeal.Gen.facts,
  Cert.Merge.Gen.facts, Cert.MergeIdeal.Gen.facts, Cert.MergeRefIdeal.Gen.facts,
  Cert.Ple.Gen.facts, Cert.PleIdeal.Gen.facts, Cert.PleRefIdeal.Gen.facts,
  Cert.PleSample.Gen.facts, Cert.PleSampleIdeal.Gen.facts, Cert.PleSampleRefIdeal.Gen.facts,
  fun m ρ _ => Cert.GdnSample.Gen.frame m ρ, fun m ρ _ => Cert.GdnSampleIdeal.Gen.frame m ρ, frame_GdnSampleRefIdeal,
  fun m ρ _ => Cert.Proj.Gen.frame m ρ, fun m ρ _ => Cert.ProjIdeal.Gen.frame m ρ, frame_ProjRefIdeal,
  fun m ρ _ => Cert.ProjSample.Gen.frame m ρ, fun m ρ _ => Cert.ProjSampleIdeal.Gen.frame m ρ, frame_ProjSampleRefIdeal,
  fun m ρ _ => Cert.Merge.Gen.frame m ρ, fun m ρ _ => Cert.MergeIdeal.Gen.frame m ρ, frame_MergeRefIdeal,
  fun m ρ _ => Cert.Ple.Gen.frame m ρ, fun m ρ _ => Cert.PleIdeal.Gen.frame m ρ, frame_PleRefIdeal,
  fun m ρ _ => Cert.PleSample.Gen.frame m ρ, fun m ρ _ => Cert.PleSampleIdeal.Gen.frame m ρ, frame_PleSampleRefIdeal,
  trivial, algebraic_Gdn, trivial, algebraic_Proj, trivial, algebraic_ProjSample, trivial, algebraic_Merge, trivial, algebraic_Ple,
  trivial, algebraic_PleSample⟩

end Cert.Proof

end
